-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 1024]⟩ ⟨3, ![4, 256, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 1024]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S256x256 : Shape := ⟨2, ![256, 256]⟩
abbrev S256x128 : Shape := ⟨2, ![256, 128]⟩
abbrev S12 : Shape := ⟨1, ![12]⟩
abbrev S_ : Shape := ⟨0, ![]⟩
abbrev S1 : Shape := ⟨1, ![1]⟩
abbrev S1x256x128 : Shape := ⟨3, ![1, 256, 128]⟩

abbrev nBuf : Space → Nat
  | .hbm => 2
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S256x256, .f32⟩
  | .local _ .vmem, ⟨0, _⟩ => ⟨S1x256x1024, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v17 : BitVec 32 := Scalar.muli v2 c8_i32_10
  let v18 : BitVec 32 := Scalar.addi c0_i32 v17
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v19 : BitVec 32 := Scalar.muli v5 c4_i32_11
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_12 : BitVec 32 := 1#32
  let v21 : BitVec 32 := Scalar.muli v11 c1_i32_12
  let v22 : BitVec 32 := Scalar.addi v20 v21
  v22.toNat
def k0_dev2 (d0 : Dev nD) : Nat :=
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_14 : BitVec 32 := 8#32
  let v23 : BitVec 32 := Scalar.muli v2 c8_i32_14
  let v24 : BitVec 32 := Scalar.addi c0_i32_15 v23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_16 : BitVec 32 := 4#32
  let v25 : BitVec 32 := Scalar.muli v5 c4_i32_16
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_17 : BitVec 32 := 1#32
  let v27 : BitVec 32 := Scalar.muli v13 c1_i32_17
  let v28 : BitVec 32 := Scalar.addi v26 v27
  v28.toNat
def k0_off1 (d0 : Dev nD) (c2_i32_7 : BitVec 32) (c0_i32_19 : BitVec 32) : Fin 3 → Nat :=
  let c0_i32_21 : BitVec 32 := 0#32
  let c0_i32_27 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.addi v8 c2_i32_7
  let c4_i32_8 : BitVec 32 := 4#32
  let v15 : BitVec 32 := Scalar.remsi v14 c4_i32_8
  let c256_i32 : BitVec 32 := 256#32
  let v29 : BitVec 32 := Scalar.muli v15 c256_i32
  let v30 : BitVec 32 := Scalar.addi v29 c0_i32_19
  ![0, 0, v30.toNat]
def k0_off1_at (r : Fin 3) : BitVec 32 × BitVec 32 :=
  if r.val < 1 then
    (2#32, 0#32)
  else
    if r.val < 2 then
      (2#32, 128#32)
    else
      (1#32, 128#32)
def k0_dev3 (d0 : Dev nD) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v33 : BitVec 32 := Scalar.muli v2 c8_i32_23
  let v34 : BitVec 32 := Scalar.addi c0_i32_24 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_25 : BitVec 32 := 4#32
  let v35 : BitVec 32 := Scalar.muli v5 c4_i32_25
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_26 : BitVec 32 := 1#32
  let v37 : BitVec 32 := Scalar.muli v13 c1_i32_26
  let v38 : BitVec 32 := Scalar.addi v36 v37
  v38.toNat
def k0_dev4 (d0 : Dev nD) : Nat :=
  let c0_i32_31 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_30 : BitVec 32 := 8#32
  let v45 : BitVec 32 := Scalar.muli v2 c8_i32_30
  let v46 : BitVec 32 := Scalar.addi c0_i32_31 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v47 : BitVec 32 := Scalar.muli v5 c4_i32_32
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_33 : BitVec 32 := 1#32
  let v49 : BitVec 32 := Scalar.muli v11 c1_i32_33
  let v50 : BitVec 32 := Scalar.addi v48 v49
  v50.toNat
def k0_dev5 (d0 : Dev nD) : Nat :=
  let c0_i32_43 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_42 : BitVec 32 := 8#32
  let v61 : BitVec 32 := Scalar.muli v2 c8_i32_42
  let v62 : BitVec 32 := Scalar.addi c0_i32_43 v61
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_44 : BitVec 32 := 4#32
  let v63 : BitVec 32 := Scalar.muli v5 c4_i32_44
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_45 : BitVec 32 := 1#32
  let v65 : BitVec 32 := Scalar.muli v13 c1_i32_45
  let v66 : BitVec 32 := Scalar.addi v64 v65
  v66.toNat
def k0_off2 (d0 : Dev nD) : Fin 3 → Nat :=
  let c0_i32_47 : BitVec 32 := 0#32
  let c0_i32_52 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c256_i32_37 : BitVec 32 := 256#32
  let v59 : BitVec 32 := Scalar.muli v11 c256_i32_37
  let c0_i32_38 : BitVec 32 := 0#32
  let v60 : BitVec 32 := Scalar.addi v59 c0_i32_38
  ![0, 0, v60.toNat]
def k0_dev6 (d0 : Dev nD) : Nat :=
  let c0_i32_49 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_48 : BitVec 32 := 8#32
  let v73 : BitVec 32 := Scalar.muli v2 c8_i32_48
  let v74 : BitVec 32 := Scalar.addi c0_i32_49 v73
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_50 : BitVec 32 := 4#32
  let v75 : BitVec 32 := Scalar.muli v5 c4_i32_50
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_51 : BitVec 32 := 1#32
  let v77 : BitVec 32 := Scalar.muli v11 c1_i32_51
  let v78 : BitVec 32 := Scalar.addi v76 v77
  v78.toNat
def k0_off3 (d0 : Dev nD) : Fin 3 → Nat :=
  let c0 : Index := 0#32
  let c0_68 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c256_i32_66 : BitVec 32 := 256#32
  let v99 : BitVec 32 := Scalar.muli v13 c256_i32_66
  let c0_i32_67 : BitVec 32 := 0#32
  let v100 : BitVec 32 := Scalar.addi v99 c0_i32_67
  let v101 : Index := Scalar.indexCast v100
  ![0, 0, v101.toNat]
def k0_dev7 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v109 : BitVec 32 := Scalar.muli v2 c8_i32_74
  let v110 : BitVec 32 := Scalar.addi c0_i32_75 v109
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v111 : BitVec 32 := Scalar.muli v5 c4_i32_76
  let v112 : BitVec 32 := Scalar.addi v110 v111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_77 : BitVec 32 := 1#32
  let v113 : BitVec 32 := Scalar.muli v13 c1_i32_77
  let v114 : BitVec 32 := Scalar.addi v112 v113
  v114.toNat
def k0_off4 (d0 : Dev nD) : Fin 3 → Nat :=
  let c0_93 : Index := 0#32
  let c0_94 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c256_i32_91 : BitVec 32 := 256#32
  let v133 : BitVec 32 := Scalar.muli v11 c256_i32_91
  let c128_i32_92 : BitVec 32 := 128#32
  let v134 : BitVec 32 := Scalar.addi v133 c128_i32_92
  let v135 : Index := Scalar.indexCast v134
  ![0, 0, v135.toNat]
def k0_dev8 (d0 : Dev nD) : Nat :=
  let c0_i32_100 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_99 : BitVec 32 := 8#32
  let v143 : BitVec 32 := Scalar.muli v2 c8_i32_99
  let v144 : BitVec 32 := Scalar.addi c0_i32_100 v143
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_101 : BitVec 32 := 4#32
  let v145 : BitVec 32 := Scalar.muli v5 c4_i32_101
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_102 : BitVec 32 := 1#32
  let v147 : BitVec 32 := Scalar.muli v11 c1_i32_102
  let v148 : BitVec 32 := Scalar.addi v146 v147
  v148.toNat
def k0_off5 (d0 : Dev nD) (c0_i32_148 : BitVec 32) : Fin 3 → Nat :=
  let c0_149 : Index := 0#32
  let c0_150 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_147 : BitVec 32 := 256#32
  let v201 : BitVec 32 := Scalar.muli v8 c256_i32_147
  let v202 : BitVec 32 := Scalar.addi v201 c0_i32_148
  let v203 : Index := Scalar.indexCast v202
  ![0, 0, v203.toNat]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S_, .f32⟩
  | .hbm, ⟨2, _⟩ => ⟨S256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Same.lean ====
/-
# The program and its idealized form are one text

No operation of this kernel is replaced when it is idealized, so the two programs agree word for word, over any
float values.  What is proved of one is therefore proved of the other.
-/
module

public import proofs.«01_k».proof.Defs
public import proofs.«01_k».proof.Proof.Gen.Kernel
public import proofs.«01_k».proof.Proof.Gen.KernelIdeal

@[expose] public section

noncomputable section

namespace Cert.FoldSum

open Idealize.ShloMosaic Idealize.SL.Sem

variable {F : FTy → Type} [FloatOps F]

/-- The two main functions are the same. -/
theorem main_eq : (Cert.Kernel.main (F := F)) = (Cert.KernelIdeal.main (F := F)) := rfl

/-- The two tables of kernel bodies are the same. -/
theorem defs₀_eq : (Cert.Kernel.defs₀ (F := F)) = (Cert.KernelIdeal.defs₀ (F := F)) := by
  unfold Cert.Kernel.defs₀ Cert.KernelIdeal.defs₀
  refine congrArg _ ?_
  funext l x
  match l with
  | 0 =>
    obtain ⟨t, s⟩ := x
    rfl
  | ⟨_ + 1, h⟩ => exact absurd h (Nat.not_lt.2 (Nat.le_add_left _ _))

/-- The two tables of definitions are the same. -/
theorem defs_eq : (Cert.Kernel.defs (F := F)) = (Cert.KernelIdeal.defs (F := F)) := by
  unfold Cert.Kernel.defs Cert.KernelIdeal.defs
  rw [defs₀_eq]
  rfl

end Cert.FoldSum

end
-- ==== Proof.Ring.lean ====
/-
# The ring of four along the third mesh axis, its buffers, semaphores and packets

Sixteen devices, numbered `8x + 4y + z`, sum their blocks along `z`.  Each device sends six packets of
256 × 128 words: those numbered 0, 2, 4 to the next device along `z`, those numbered 1, 3, 5 to the one before.
Packets 0 to 3 are pieces of the device's own operand; packets 4 and 5 are such pieces with packets 0 and 1 of the
neighbours added.  This file names the neighbours, the six packets, where each is read from and where it lands.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.FoldSum

open Cert.KernelIdeal Cert.KernelIdeal.Gen
open Idealize.ShloMosaic Idealize.ShloMosaic.TcCoe
open Idealize.SL Idealize.SL.RA Idealize.SL.BI Idealize.SL.Sem

variable {F : FTy → Type} [FloatOps F]

/-! ## Neighbours -/

set_option backward.proofsInPublic true in
/-- The next device along the third mesh axis. -/
def nxt (c : Dev nD) : Dev nD := ⟨4 * (c.val / 4) + (c.val % 4 + 1) % 4, by have h : c.val < 16 := c.isLt; show _ < 16; omega⟩
set_option backward.proofsInPublic true in
/-- The device before along the third mesh axis. -/
def prv (c : Dev nD) : Dev nD := ⟨4 * (c.val / 4) + (c.val % 4 + 3) % 4, by have h : c.val < 16 := c.isLt; show _ < 16; omega⟩

/-- Forth and back is where one was; -/
theorem prv_nxt (c : Dev nD) : prv (nxt c) = c := by revert c; decide
/-- so is back and forth. -/
theorem nxt_prv (c : Dev nD) : nxt (prv c) = c := by revert c; decide
/-- The two neighbours differ. -/
theorem nxt_ne_prv (c : Dev nD) : nxt c ≠ prv c := by revert c; decide

/-- Going one device on is a bijection. -/
def turn : Dev nD ≃ Dev nD := ⟨nxt, prv, prv_nxt, nxt_prv⟩

/-- Where a device sends packet `k`: even packets on, odd packets back. -/
def goes (k : Fin 6) (c : Dev nD) : Dev nD := if k.val % 2 = 0 then nxt c else prv c
/-- Which device a device's packet `k` comes from. -/
def comes (k : Fin 6) (c : Dev nD) : Dev nD := if k.val % 2 = 0 then prv c else nxt c

/-- A packet goes to where it comes from, seen from either end; -/
theorem goes_comes (k : Fin 6) (c : Dev nD) : goes k (comes k c) = c := by
  unfold goes comes; split
  · exact nxt_prv c
  · exact prv_nxt c
/-- and the other way round. -/
theorem comes_goes (k : Fin 6) (c : Dev nD) : comes k (goes k c) = c := by
  unfold goes comes; split
  · exact prv_nxt c
  · exact nxt_prv c
/-- Sending packet `k` is a bijection of the devices. -/
def along (k : Fin 6) : Dev nD ≃ Dev nD := ⟨goes k, comes k, comes_goes k, goes_comes k⟩

/-- The devices the kernel signals and sends to: first the signals to the device before and the next, -/
theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
/-- then the six packets. -/
theorem dev3_eq (c : Dev nD) : (⟨k0_dev3 c, k0_dev3_lt c⟩ : Dev nD) = goes 0 c := by revert c; decide
theorem dev4_eq (c : Dev nD) : (⟨k0_dev4 c, k0_dev4_lt c⟩ : Dev nD) = goes 1 c := by revert c; decide
theorem dev5_eq (c : Dev nD) : (⟨k0_dev5 c, k0_dev5_lt c⟩ : Dev nD) = goes 2 c := by revert c; decide
theorem dev6_eq (c : Dev nD) : (⟨k0_dev6 c, k0_dev6_lt c⟩ : Dev nD) = goes 3 c := by revert c; decide
theorem dev7_eq (c : Dev nD) : (⟨k0_dev7 c, k0_dev7_lt c⟩ : Dev nD) = goes 4 c := by revert c; decide
theorem dev8_eq (c : Dev nD) : (⟨k0_dev8 c, k0_dev8_lt c⟩ : Dev nD) = goes 5 c := by revert c; decide

/-! ## Buffers -/

/-- A whole buffer of 256 × 128 words in vector memory. -/
abbrev Blk : Type := Memref sig .tc .vmem S256x128 .f32

/-- The staged operand. -/
abbrev xM : Memref sig .tc .vmem S1x256x1024 .f32 := Memref.whole cc0_stg0_0
/-- The staged result. -/
abbrev oM : Memref sig .tc .vmem S256x256 .f32 := Memref.whole cc0_stg1_0

/-- The 256 × 128 piece of the staged operand at an offset. -/
abbrev piece (off : Fin 3 → ℕ) (h : ∀ a, off a + S1x256x128.size a ≤ S1x256x1024.size a) : Blk :=
  (xM.slice (Rect.unit (s := S1x256x1024) off S1x256x128.size h) (fun _ => rfl)).squeeze S256x128 squeezes_S1x256x128_S256x128

/-- Where packet `k` lands. -/
def dstM : Fin 6 → Blk
  | 0 => Memref.whole cc0_scratch0
  | 1 => Memref.whole cc0_scratch1
  | 2 => Memref.whole cc0_scratch2
  | 3 => Memref.whole cc0_scratch3
  | 4 => Memref.whole cc0_scratch4
  | 5 => Memref.whole cc0_scratch5

/-- What device `c` reads packet `k` from. -/
def srcM (c : Dev nD) : Fin 6 → Blk
  | 0 => piece (k0_off1 c 2#32 0#32) (k0_off1_inb c 0)
  | 1 => piece (k0_off1 c 2#32 128#32) (k0_off1_inb c 1)
  | 2 => piece (k0_off1 c 1#32 128#32) (k0_off1_inb c 2)
  | 3 => piece (k0_off2 c) (k0_off2_inb c)
  | 4 => Memref.whole cc0_scratch6
  | 5 => Memref.whole cc0_scratch7

/-! ## Semaphores -/

/-- The barrier semaphore. -/
abbrev barS : Sem sig := (SemArray.scalar (sig.barrier 0 rfl) : Sems sig S_).sem
set_option backward.proofsInPublic true in
/-- The semaphore of a packet at its sender (`false`) or its receiver (`true`). -/
def xsem (b : Bool) (k : Fin 6) : DmaSem sig := ⟨(if b then 8 else 2) + k.val, by
  have h : (if b then 8 else 2) + k.val < 14 := by have := k.isLt; split <;> omega
  exact h⟩

/-- Which packet and which end a semaphore serves. -/
def serves (s : DmaSem sig) : Option (Bool × Fin 6) :=
  if h : 8 ≤ s.val ∧ s.val < 14 then some (true, ⟨s.val - 8, by omega⟩)
  else if h : 2 ≤ s.val ∧ s.val < 8 then some (false, ⟨s.val - 2, by omega⟩) else none

/-- A packet's semaphore serves that packet, at that end. -/
theorem serves_xsem (b : Bool) (k : Fin 6) : serves (xsem b k) = some (b, k) := by revert b k; decide

/-- The barrier cell of a device. -/
abbrev barCell (c : Dev nD) : GSem nD τ sig := ((c : Thread nD τ), .reg barS)
/-- A packet's cell at either end. -/
abbrev xcell (c : Dev nD) (b : Bool) (k : Fin 6) : GSem nD τ sig := ((c : Thread nD τ), .dma (xsem b k))

/-- A barrier's cell is no packet's. -/
theorem bar_ne (c d : Dev nD) (b : Bool) (k : Fin 6) : barCell c ≠ xcell d b k := fun h => by
  have := congrArg Prod.snd h; cases this
/-- A packet's cell tells the device, the end and the packet. -/
theorem xcell_inj {c d : Dev nD} {b b' : Bool} {k k' : Fin 6} (h : xcell c b k = xcell d b' k') : c = d ∧ b = b' ∧ k = k' := by
  have h1 : c = d := congrArg (fun g : GSem nD τ sig => g.1.1) h
  have h2 : xsem b k = xsem b' k' := by
    have := congrArg Prod.snd h
    injection this
  have h3 := congrArg serves h2
  rw [serves_xsem, serves_xsem] at h3
  injection h3 with h3
  exact ⟨h1, congrArg Prod.fst h3, congrArg Prod.snd h3⟩

/-- The words of credit one packet moves. -/
abbrev N : ℕ := (dstM 0).view.dmaCredit
/-- A packet moves something. -/
theorem N_pos : 0 < N := View.dmaCredit_pos _ (by decide)

/-! ## Packets -/

variable (m : (ℓ : Loc nD τ sig) → Buf (Elt F) ℓ)

/-- Device `c`'s staged operand. -/
def xstg (c : Dev nD) : (cc0_stg0_0 : Ref sig .tc).ty.Contents (Elt F) :=
  (win0_0.blk (0 : Fin 1)).view.read (Elt F) (m ((c : Thread nD τ).loc main_arg0))

/-- The rectangle of a load from the staged operand at an offset. -/
abbrev cut (off : Fin 3 → ℕ) (h : ∀ a, off a + S1x256x128.size a ≤ S1x256x1024.size a) : Rect S1x256x1024 :=
  Rect.unit (s := S1x256x1024) off S1x256x128.size h
/-- What such a load reads on device `c`. -/
def xload (c : Dev nD) (off : Fin 3 → ℕ) (h : ∀ a, off a + S1x256x128.size a ≤ S1x256x1024.size a) : S1x256x128.Idx → Elt F .f32 :=
  xM.view.readAt (Elt F) (cut off h).toLoadRect (xstg m c)

/-- A piece of the operand as a packet. -/
def xpiece (c : Dev nD) (off : Fin 3 → ℕ) (h : ∀ a, off a + S1x256x128.size a ≤ S1x256x1024.size a) : S256x128.Idx → Elt F .f32 :=
  (piece off h).view.read (Elt F) (xstg m c)

/-- The buffer device `c` reads packet `k` from, as it stands when the packet leaves. -/
def srcBuf (c : Dev nD) : (k : Fin 6) → Buf (Elt F) ((srcM c k).view.loc (c : Thread nD τ))
  | 0 => xstg m c
  | 1 => xstg m c
  | 2 => xstg m c
  | 3 => xstg m c
  | 4 => k0_pay2 (xload m c (k0_off3 c) (k0_off3_inb c)) (xpiece m (prv c) (k0_off1 (prv c) 2#32 0#32) (k0_off1_inb (prv c) 0))
  | 5 => k0_pay3 (xload m c (k0_off4 c) (k0_off4_inb c)) (xpiece m (nxt c) (k0_off1 (nxt c) 2#32 128#32) (k0_off1_inb (nxt c) 1))

/-- Packet `k` of device `c`. -/
def pkt (c : Dev nD) (k : Fin 6) : S256x128.Idx → Elt F .f32 := (srcM c k).view.read (Elt F) (srcBuf m c k)

/-- Device `c`'s packet `k` as the buffer it lands in. -/
def dstBuf (c : Dev nD) : (k : Fin 6) → Buf (Elt F) ((dstM k).view.loc (c : Thread nD τ))
  | 0 => pkt m (comes 0 c) 0
  | 1 => pkt m (comes 1 c) 1
  | 2 => pkt m (comes 2 c) 2
  | 3 => pkt m (comes 3 c) 3
  | 4 => pkt m (comes 4 c) 4
  | 5 => pkt m (comes 5 c) 5

/-- A packet that lands fills its buffer, whatever that held. -/
theorem dst_write (c : Dev nD) (k : Fin 6) (f : Buf (Elt F) ((dstM k).view.loc (c : Thread nD τ))) :
    (dstM k).view.write (Elt F) f (pkt m (comes k c) k) Finset.univ = dstBuf m c k := by
  fin_cases k <;> exact View.write_whole_univ _ _ _

/-- It covers the buffer. -/
theorem dst_set (k : Fin 6) : (dstM k).view.set = Finset.univ := by fin_cases k <;> exact View.set_whole _

/-- The left half of the result on device `c`: its own words, packet 3 and the sum in packet 4. -/
def leftOut (c : Dev nD) : S256x128.Idx → Elt F .f32 :=
  k0_pay4 (xload m c (k0_off5 c 0#32) (k0_off5_inb c 0)) (pkt m (nxt c) 3) (pkt m (prv c) 4)
/-- The right half: its own words, packet 2 and the sum in packet 5. -/
def rightOut (c : Dev nD) : S256x128.Idx → Elt F .f32 :=
  k0_pay1 (k0_pay5 (xload m c (k0_off5 c 128#32) (k0_off5_inb c 1))) (pkt m (prv c) 2) (pkt m (nxt c) 5)

end Cert.FoldSum

end
-- ==== Proof.Schedule.lean ====
/-
# What each semaphore hands over, and in which order a device may wait

A device's barrier cell is paid one unit by each of its two neighbours; with its unit a neighbour hands over the three
buffers that the device is going to write there.  A packet's cell at the receiver is paid the packet's words and hands
over the landing buffer filled; its cell at the sender is paid the same and hands back the buffer the packet left from.
Each cell serves one round.
-/
module

public import proofs.«01_k».proof.Proof.Ring

@[expose] public section

noncomputable section

namespace Cert.FoldSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ring's ghost state, duties named by a Boolean, beside the launch's own. -/
abbrev UB : Type := URounds (GSem nD τ sig) Bool
/-- The pipeline's ghost state beside the rounds' ghost state. -/
abbrev UU : Type := UR sig nD τ × UB

local notation "𝕄" => MT nD τ sig Unit (Elt F) ℕ UU ℕ

/-- The pipeline's part of it; -/
abbrev EP : Emb (UR sig nD τ) (MT nD τ sig Unit (Elt F) ℕ UU ℕ) := embL
/-- the rounds' part. -/
abbrev ER : Emb UB (MT nD τ sig Unit (Elt F) ℕ UU ℕ) := embR

variable (m : (ℓ : Loc nD τ sig) → Buf (Elt F) ℓ)

/-! ## What is handed over -/

/-- The share of its buffer a packet travels with: a fourth of one half of the operand, or a scratch buffer whole. -/
def shareOf : Fin 6 → PosShare TreeShare
  | 0 => fullShare.right.left.left
  | 1 => fullShare.right.left.right
  | 2 => fullShare.right.right.left
  | 3 => fullShare.right.right.right
  | 4 => fullShare
  | 5 => fullShare

/-- The elements packet `k` leaves from, at its share. -/
def srcPts (c : Dev nD) (k : Fin 6) : sProp 𝕄 :=
  (srcM c k).view.loc (c : Thread nD τ) ↦[(srcM c k).view.set]{shareOf k} srcBuf m c k
/-- The buffer packet `k` lands in, at contents `f`. -/
def slotAt (c : Dev nD) (k : Fin 6) (f : Buf (Elt F) ((dstM k).view.loc (c : Thread nD τ))) : sProp 𝕄 :=
  (dstM k).view.loc (c : Thread nD τ) ↦[(dstM k).view.set]{fullShare} f
/-- That buffer at any contents. -/
def slot (c : Dev nD) (k : Fin 6) : sProp 𝕄 := iprop(∃ f, slotAt (F := F) c k f)

instance srcPts_storable (c : Dev nD) (k : Fin 6) : BI.Storable (upEmb : UEmb _ 𝕄) (srcPts m c k) := by
  unfold srcPts; infer_instance
omit [FloatOps F] in
instance slotAt_storable (c : Dev nD) (k : Fin 6) (f) : BI.Storable (upEmb : UEmb _ 𝕄) (slotAt (F := F) c k f) := by
  unfold slotAt; infer_instance
omit [FloatOps F] in
instance slot_storable (c : Dev nD) (k : Fin 6) : BI.Storable (upEmb : UEmb _ 𝕄) (slot (F := F) c k) := by
  unfold slot; infer_instance

/-- What a neighbour's unit on `c`'s barrier cell hands `c`: the next device its buffers 0, 2, 4 (duty `true`), the one
    before its buffers 1, 3, 5 (duty `false`). -/
def barPay (c : Dev nD) (d : Bool) : sProp 𝕄 :=
  if d then iprop(slot (goes 0 c) 0 ∗ slot (goes 2 c) 2 ∗ slot (goes 4 c) 4)
  else iprop(slot (goes 1 c) 1 ∗ slot (goes 3 c) 3 ∗ slot (goes 5 c) 5)
/-- What packet `k`'s cell hands `c` at either end. -/
def xpay (c : Dev nD) (b : Bool) (k : Fin 6) : sProp 𝕄 :=
  if b then slotAt c k (dstBuf m c k) else srcPts m c k

omit [FloatOps F] in
instance barPay_storable (c : Dev nD) (d : Bool) : BI.Storable (upEmb : UEmb _ 𝕄) (barPay (F := F) c d) := by
  unfold barPay; split <;> infer_instance
instance xpay_storable (c : Dev nD) (b : Bool) (k : Fin 6) : BI.Storable (upEmb : UEmb _ 𝕄) (xpay m c b k) := by
  unfold xpay; split <;> infer_instance

/-! ## The schedule -/

/-- The duties a semaphore of a core has: two at the barrier, one at a packet's semaphore. -/
def dutiesOf : SemLoc sig → Finset Bool
  | .reg s => if s = barS then Finset.univ else ∅
  | .dma s => if (serves s).isSome then {false} else ∅
/-- The words a duty pays. -/
def amountOf : SemLoc sig → ℕ
  | .reg _ => 1
  | .dma _ => N
/-- What the duty of a semaphore serving `o` hands over on device `c`. -/
def payX (c : Dev nD) : Option (Bool × Fin 6) → sProp 𝕄
  | some bk => xpay m c bk.1 bk.2
  | none => iprop(emp)
/-- What a duty hands over on device `c`. -/
def payOf (c : Dev nD) : SemLoc sig → Bool → sProp 𝕄
  | .reg _, d => barPay c d
  | .dma s, _ => payX m c (serves s)

instance payX_storable (c : Dev nD) (o : Option (Bool × Fin 6)) : BI.Storable (upEmb : UEmb _ 𝕄) (payX m c o) := by
  cases o <;> unfold payX <;> infer_instance

/-- Every duty has a positive amount. -/
theorem amountOf_pos (s : SemLoc sig) : 0 < amountOf s := by
  cases s
  · exact Nat.one_pos
  · exact N_pos

/-- One round at every cell of a core. -/
def plan : Rounds.Schedule (GSem nD τ sig) Bool 𝕄 where
  duties g r := if r = 0 ∧ g.1.2 = .tc then dutiesOf g.2 else ∅
  unitless _ := False
  amount g _ _ := amountOf g.2
  payload g _ d := payOf m g.1.1 g.2 d
  amount_pos g _ _ _ := amountOf_pos g.2

instance plan_storable (g : GSem nD τ sig) (r : ℕ) (d : Bool) : BI.Storable (upEmb : UEmb _ 𝕄) ((plan m).payload g r d) := by
  show BI.Storable upEmb (payOf m g.1.1 g.2 d)
  obtain ⟨t, s | s⟩ := g
  · exact barPay_storable _ _
  · exact payX_storable m _ _

section Read
variable (c : Dev nD) (b : Bool) (k : Fin 6)

/-- A barrier cell has two duties, -/
theorem duties_bar : (plan m).duties (barCell c) 0 = Finset.univ := rfl
/-- a packet's cell one, -/
theorem duties_x : (plan m).duties (xcell c b k) 0 = {false} := by
  show (if (serves (xsem b k)).isSome then ({false} : Finset Bool) else ∅) = _
  rw [serves_xsem]; rfl
/-- and no cell any after its first round. -/
theorem duties_later (g : GSem nD τ sig) : ∀ r, 0 + 1 ≤ r → (plan m).duties g r = ∅ := fun r hr => by
  show (if r = 0 ∧ g.1.2 = .tc then dutiesOf g.2 else ∅) = ∅
  exact if_neg fun h => by omega

/-- What a barrier duty hands over; -/
theorem payload_bar (d : Bool) : (plan m).payload (barCell c) 0 d = barPay c d := rfl
/-- and what a packet's duty does. -/
theorem payload_x (d : Bool) : (plan m).payload (xcell c b k) 0 d = xpay m c b k := by
  show payX m c (serves (xsem b k)) = _
  rw [serves_xsem]; rfl
/-- A barrier expects two units, -/
theorem expect_bar : (plan m).expect (barCell c) 0 = 2 := by
  unfold Schedule.expect Schedule.amountOf
  rw [duties_bar]; rfl
/-- a packet's cell the packet's words. -/
theorem expect_x : (plan m).expect (xcell c b k) 0 = N := by
  unfold Schedule.expect Schedule.amountOf
  rw [duties_x, Finset.sum_singleton]; rfl

/-- All that a barrier cell's round hands over. -/
theorem rest_bar : bigSep ((plan m).duties (barCell c) 0 \ ∅) (fun d => (plan m).payload (barCell c) 0 d)
    = iprop(barPay c true ∗ barPay c false) := by
  rw [Finset.sdiff_empty, duties_bar, bigSep_univ_eq_bigSepL [true, false] (by decide) (by decide), bigSepL_cons_cons, bigSepL_singleton]
  rfl
/-- All that a packet cell's round hands over. -/
theorem rest_x : bigSep ((plan m).duties (xcell c b k) 0 \ ∅) (fun d => (plan m).payload (xcell c b k) 0 d) = xpay m c b k := by
  rw [Finset.sdiff_empty, duties_x, bigSep_singleton, payload_x]

end Read

/-! ## Debts and levels -/

/-- The words device `c` still owes its neighbours' packet cells while the packets `ks` are yet to leave. -/
def dues (c : Dev nD) : List (Fin 6) → CellTallies nD τ sig Unit
  | [] => 0
  | k :: ks => dues c ks + tallyAt (xcell (goes k c) true k) () N

/-- All six packets, in the order they leave. -/
abbrev six : List (Fin 6) := [0, 1, 2, 3, 4, 5]

/-- What device `c` owes after its first signal, and from the start. -/
def owed₁ (c : Dev nD) : CellTallies nD τ sig Unit := dues c six + tallyAt (barCell (nxt c)) () 1
/-- What a device owes when it begins: both signals and all packets. -/
def owed₀ (c : Dev nD) : CellTallies nD τ sig Unit := owed₁ c + tallyAt (barCell (prv c)) () 1

/-- Every core's cells carry levels: the barrier below the first four packets' arrivals, those below the last two's;
    all else at the bottom. -/
def L (g : GSem nD τ sig) : Finset Unit := if g.1.2 = .tc then {()} else ∅
/-- The level of a semaphore. -/
def height : SemLoc sig → ℕ
  | .reg _ => 1
  | .dma s => match serves s with
    | some (true, k) => if k.val < 4 then 2 else 3
    | _ => 0
/-- The level of a cell. -/
def lv (g : GSem nD τ sig) (_ : Unit) : ℕ := height g.2

/-- Only TensorCores have levels. -/
theorem L_of_ne (g : GSem nD τ sig) (h : g.1.2 ≠ .tc) : L g = ∅ := if_neg h
/-- The levels of a packet's two cells. -/
theorem height_x (b : Bool) (k : Fin 6) : height (.dma (xsem b k)) = if b then (if k.val < 4 then 2 else 3) else 0 := by
  unfold height; simp only [serves_xsem]; cases b <;> rfl

/-- Where a debt of one cell is positive, it is that cell. -/
theorem tallyAt_pos {g g' : GSem nD τ sig} {n : ℕ} {u : Unit} (h : 0 < tallyAt (Ix := Unit) g () n g' u) : g' = g := by
  rw [tallyAt_apply] at h
  by_contra hn
  rw [if_neg fun h' => hn h'.1] at h
  exact Nat.lt_irrefl 0 h

/-- Where what is owed for packets is positive, it is at the arrival of one of them. -/
theorem dues_pos {c : Dev nD} {g : GSem nD τ sig} {u : Unit} : ∀ {ks : List (Fin 6)}, 0 < dues c ks g u →
    ∃ k ∈ ks, g = xcell (goes k c) true k
  | [], h => absurd h (Nat.lt_irrefl 0)
  | k :: ks, h => by
    unfold dues at h
    rw [Pi.add_apply, Finsupp.add_apply] at h
    rcases Nat.eq_zero_or_pos (dues c ks g u) with h0 | h0
    · rw [h0, Nat.zero_add] at h
      exact ⟨k, List.mem_cons_self, tallyAt_pos h⟩
    · obtain ⟨k', hk, e⟩ := dues_pos h0
      exact ⟨k', List.mem_cons_of_mem _ hk, e⟩

/-- All that is owed at the start is at TensorCores' cells above the bottom. -/
theorem owed₀_pos {c : Dev nD} {g : GSem nD τ sig} {u : Unit} (h : 0 < owed₀ c g u) : g.1.2 = .tc ∧ 0 < height g.2 := by
  unfold owed₀ owed₁ at h
  rw [Pi.add_apply, Finsupp.add_apply, Pi.add_apply, Finsupp.add_apply] at h
  rcases Nat.eq_zero_or_pos (dues c six g u) with h0 | h0
  · rw [h0, Nat.zero_add] at h
    rcases Nat.eq_zero_or_pos (tallyAt (Ix := Unit) (barCell (nxt c)) () 1 g u) with h1 | h1
    · rw [h1, Nat.zero_add] at h
      rw [tallyAt_pos h]; exact ⟨rfl, Nat.one_pos⟩
    · rw [tallyAt_pos h1]; exact ⟨rfl, Nat.one_pos⟩
  · obtain ⟨k, -, rfl⟩ := dues_pos h0
    refine ⟨rfl, ?_⟩
    rw [height_x]; split <;> first | (split <;> decide) | contradiction

omit [FloatOps F] in
/-- A core may wait on a semaphore lying below every cell it owes. -/
theorem mayWait_below (c : Dev nD) (sm : SemLoc sig) (O : CellTallies nD τ sig Unit)
    (h : ∀ g u, 0 < O g u → g.1.2 = .tc ∧ height sm < height g.2) : (levAts L lv : sProp 𝕄) ⊢ MayWait (c : Thread nD τ) sm () O :=
  MayOwe.of_cut (L := L) (lev := lv) (height sm)
    (fun p hp => by rw [Finset.mem_singleton.mp hp]; exact Finset.mem_singleton_self _)
    (fun g u hg => by unfold L; rw [if_pos (h g u hg).1]; exact Finset.mem_singleton_self _)
    (fun p hp => by rw [Finset.mem_singleton.mp hp]; exact Nat.le_refl _)
    (fun g u hg => (h g u hg).2)

omit [FloatOps F] in
/-- With the packets `ks` yet to leave, a core may wait on a semaphore lying below their arrivals. -/
theorem mayWait_dues (c : Dev nD) (sm : SemLoc sig) (ks : List (Fin 6)) (h : ∀ k ∈ ks, height sm < if k.val < 4 then 2 else 3) :
    (levAts L lv : sProp 𝕄) ⊢ MayWait (c : Thread nD τ) sm () (dues c ks) :=
  mayWait_below c sm _ fun g u hg => by
    obtain ⟨k, hk, rfl⟩ := dues_pos hg
    refine ⟨rfl, ?_⟩
    rw [height_x]; exact h k hk

end Cert.FoldSum

end
-- ==== Proof.Steps.lean ====
/-
# One rule per kind of step

The kernel signals twice, waits on its barrier once, sends six packets and waits twice for each.  Each kind of step has
one rule here, stated for any packet: what a device must hold before it and what it holds after.
-/
module

public import proofs.«01_k».proof.Proof.Schedule

@[expose] public section

noncomputable section

namespace Cert.FoldSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells of a device, and what is known of all of them -/

/-- A device's thirteen cells: the barrier, and two for each packet. -/
abbrev CI : Type := Unit ⊕ (Bool × Fin 6)
/-- The semaphore of a name. -/
def semAt : CI → SemLoc sig
  | .inl _ => .reg barS
  | .inr bk => .dma (xsem bk.1 bk.2)
/-- The cell of a device and a name. -/
abbrev cellAt (ci : Dev nD × CI) : GSem nD τ sig := ((ci.1 : Thread nD τ), semAt ci.2)

/-- Every cell keeps the schedule, at the name `K` gives it, and has reached its round. -/
def records (K : Dev nD × CI → ℕ) : sProp 𝕄 :=
  iprop((bigSep Finset.univ fun ci : Dev nD × CI => cellInv ER (plan m) (K ci) (cellAt ci))
    ∗ bigSep Finset.univ fun ci : Dev nD × CI => reached ER (cellAt ci) 0)

instance records_persistent (K : Dev nD × CI → ℕ) : BI.Persistent (records m K) := by unfold records; infer_instance

variable (K : Dev nD × CI → ℕ)

/-- The records hold what is known of each cell. -/
theorem record_at (ci : Dev nD × CI) : records m K ⊢ iprop(cellInv ER (plan m) (K ci) (cellAt ci) ∗ reached ER (cellAt ci) 0) := by
  unfold records
  exact BI.sep_mono (bigSep_elim (Φ := fun ci : Dev nD × CI => cellInv ER (plan m) (K ci) (cellAt ci)) (Finset.mem_univ ci))
    (bigSep_elim (Φ := fun ci : Dev nD × CI => reached ER (cellAt ci) 0) (Finset.mem_univ ci))

/-- What a device owes, whatever it has waited on before. -/
def debt (c : Dev nD) (O : CellTallies nD τ sig Unit) : sProp 𝕄 := iprop(∃ W : Waits sig Unit, owes (c : Thread nD τ) O W)

section Steps

/-- Signalling device `n`'s barrier: a unit of the debt is paid, and what the duty hands over goes with it. -/
theorem wp_tell {α : Type} {Q : α → sProp 𝕄} {k : PUnit → Prog (TpuEff nD τ sig (Elt F) Λ₀ .tc) α}
    (c n : Dev nD) (d : Bool) {O₀ : CellTallies nD τ sig Unit} (O : CellTallies nD τ sig Unit) {u : ℕ} (hu : 1 = u)
    (hO : O₀ = O + tallyAt (barCell n) () 1) :
    iprop(records m K ∗ debt c O₀ ∗ dutyTok ER (barCell n) 0 d ∗ barPay n d)
      ⊢ iprop((debt c O -∗ wp frame (wpE (defs₀ (F := F)) Variants.none (c : Thread nD τ) none) Set.univ (k ⟨⟩) Q)
          -∗ wp frame (wpE (defs₀ (F := F)) Variants.none (c : Thread nD τ) none) Set.univ
              (.op (.semSignal (n : Thread nD τ) barS u) k) Q) := by
  subst hu
  unfold debt
  iintro ⟨#HR, ⟨%W, HO⟩, Ht, Hp⟩ Hk
  ihave #Hn := (record_at m K (n, .inl ())) $$ HR
  icases Hn with ⟨Hi, Hr⟩
  iapply (Rounds.wp_signal Variants.none ER (plan m) (c : Thread nD τ) none (dst := (n : Thread nD τ)) (κ := K (n, .inl ()))
    (d := d) (by rw [duties_bar]; exact Finset.mem_univ _) rfl () O hO) $$ [HO Ht Hp]
  · isplitr; · iexact Hi
    isplitl [HO]; · iexact HO
    isplitl [Ht]; · iexact Ht
    isplitl [Hp]; · rw [payload_bar]; iexact Hp
    iexact Hr
  iintro HO
  iapply Hk
  iexists W; iexact HO

/-- Waiting for both units on the own barrier: the buffers to write on both neighbours come with it, and the cell,
    finished, is the core's again at zero. -/
theorem wp_meet {α : Type} {Q : α → sProp 𝕄} {k : PUnit → Prog (TpuEff nD τ sig (Elt F) Λ₀ .tc) α}
    (c : Dev nD) (O : CellTallies nD τ sig Unit) {u : ℕ} (hu : 2 = u)
    (hO : (levAts L lv : sProp 𝕄) ⊢ MayWait (c : Thread nD τ) (.reg barS) () O) :
    iprop(records m K ∗ levAts L lv ∗ debt c O ∗ cred (tallyAt (barCell c) () 2) ∗ atPos ER (barCell c) 0 ∅ 0)
      ⊢ iprop(((debt c O ∗ semVal (barCell c) 0 ∗ barPay c true ∗ barPay c false)
            -∗ wp frame (wpE (defs₀ (F := F)) Variants.none (c : Thread nD τ) none) Set.univ (k ⟨⟩) Q)
          -∗ wp frame (wpE (defs₀ (F := F)) Variants.none (c : Thread nD τ) none) Set.univ (.op (.semWait barS u) k) Q) := by
  subst hu
  unfold debt
  iintro ⟨#HR, #HL, ⟨%W, HO⟩, Hc, Ha⟩ Hk
  ihave #Hn := (record_at m K (c, .inl ())) $$ HR
  icases Hn with ⟨Hi, Hr⟩
  iapply (Rounds.wp_wait_rest_token Variants.none ER (plan m) (c : Thread nD τ) none (κ := K (c, .inl ()))
    (wpE_semWait_eq Variants.none (c : Thread nD τ) none Set.univ) (Set.mem_univ _) () (O := O) (W := W) (R := 0) (m := 0) (T := ∅)
    (by rw [Nat.zero_add]; exact (expect_bar m c).symm)) $$ [Hc HO Ha]
  · isplitr; · iexact Hi
    isplitl [Hc]; · iexact Hc
    isplitl [HO]; · iexact HO
    isplitr; · iapply hO; iexact HL
    iexact Ha
  iintro ⟨HO, Ha, -, Hpay⟩
  imod (Rounds.cell_close ER (plan m) (Set.mem_univ (K (c, .inl ()))) (fun h => h) (R := 0 + 1) (duties_later m (barCell c))) $$ [Ha] with Hz
  · isplitr; · iexact Hi
    iexact Ha
  ihave Hp := (Entails.of_eq (rest_bar m c)) $$ Hpay
  iapply Hk
  isplitl [HO]; · iexists _; iexact HO
  isplitl [Hz]; · iexact Hz
  iexact Hp

/-- Waiting on a packet's cell: what it hands over comes with it, and the cell, finished, is the core's again at zero. -/
theorem wp_await {α : Type} {Q : α → sProp 𝕄} {k : PUnit → Prog (TpuEff nD τ sig (Elt F) Λ₀ .tc) α}
    (c : Dev nD) (b : Bool) (j : Fin 6) (O : CellTallies nD τ sig Unit)
    (hO : (levAts L lv : sProp 𝕄) ⊢ MayWait (c : Thread nD τ) (.dma (xsem b j)) () O)
    {s : DmaSem sig} (es : s = xsem b j)
    {src dst : Blk} {hs : src.view.WordExact} {hd : dst.view.WordExact} (hN : dst.view.dmaCredit = N) :
    iprop(records m K ∗ levAts L lv ∗ debt c O ∗ cred (tallyAt (xcell c b j) () N) ∗ atPos ER (xcell c b j) 0 ∅ 0)
      ⊢ iprop(((debt c O ∗ semVal (xcell c b j) 0 ∗ xpay m c b j)
            -∗ wp frame (wpE (defs₀ (F := F)) Variants.none (c : Thread nD τ) none) Set.univ (k ⟨⟩) Q)
          -∗ wp frame (wpE (defs₀ (F := F)) Variants.none (c : Thread nD τ) none) Set.univ
              (.op (.waitDma2 s src dst hs hd) k) Q) := by
  subst es
  unfold debt
  iintro ⟨#HR, #HL, ⟨%W, HO⟩, Hc, Ha⟩ Hk
  ihave #Hn := (record_at m K (c, .inr (b, j))) $$ HR
  icases Hn with ⟨Hi, Hr⟩
  iapply (Rounds.wp_wait_rest_token Variants.none ER (plan m) (c : Thread nD τ) none (κ := K (c, .inr (b, j))) (k' := N)
    (fun K' => (wpE_waitDma2_eq Variants.none (c : Thread nD τ) none Set.univ K').trans (by rw [hN])) (Set.mem_univ _) () (O := O) (W := W)
    (R := 0) (m := 0) (T := ∅) (by rw [Nat.zero_add]; exact (expect_x m c b j).symm)) $$ [Hc HO Ha]
  · isplitr; · iexact Hi
    isplitl [Hc]; · iexact Hc
    isplitl [HO]; · iexact HO
    isplitr; · iapply hO; iexact HL
    iexact Ha
  iintro ⟨HO, Ha, -, Hpay⟩
  imod (Rounds.cell_close ER (plan m) (Set.mem_univ (K (c, .inr (b, j)))) (fun h => h) (R := 0 + 1) (duties_later m (xcell c b j))) $$ [Ha] with Hz
  · isplitr; · iexact Hi
    iexact Ha
  ihave Hp := (Entails.of_eq (rest_x m c b j)) $$ Hpay
  iapply Hk
  isplitl [HO]; · iexists _; iexact HO
  isplitl [Hz]; · iexact Hz
  iexact Hp

/-- Sending packet `j`, addressed to the device it goes to: its source and the buffer it lands in are given up, its debt
    is paid, and the credit to wait for the source's return is gained. -/
theorem wp_post {α : Type} {Q : α → sProp 𝕄} {k : PUnit → Prog (TpuEff nD τ sig (Elt F) Λ₀ .tc) α}
    (c n : Dev nD) (j : Fin 6) (ks : List (Fin 6)) (hn : n = goes j c)
    {src dst : Blk} (esrc : src = srcM c j) (edst : dst = dstM j) {s s' : DmaSem sig} (es : s = xsem false j) (es' : s' = xsem true j)
    {hsc : (dst : Memref sig (Dev.tc n : Thread nD τ).2.kind .vmem S256x128 .f32).view.ref.isScScratch = false}
    {hsrc : src.view.WordExact} {hdst : dst.view.WordExact}
    {hsem : DmaTarget.Typed .vmem (.dma s')
      (.remote (Dev.tc n : Thread nD τ) (dst : Memref sig .tc .vmem S256x128 .f32) (.dma s) hsc)} :
    iprop(records m K ∗ debt c (dues c (j :: ks)) ∗ srcPts m c j ∗ slot (goes j c) j
        ∗ dutyTok ER (xcell c false j) 0 false ∗ dutyTok ER (xcell (goes j c) true j) 0 false)
      ⊢ iprop(((debt c (dues c ks) ∗ cred (tallyAt (xcell c false j) () N))
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (Dev.tc n : Thread nD τ) dst (.dma s) hsc) (.dma s') hsrc hdst hsem) k) Q) := by
  subst hn esrc edst es es'
  unfold debt slot
  iintro ⟨#HR, ⟨%W, HO⟩, Hs, ⟨%f, Hd⟩, Ht, Ht'⟩ Hk
  ihave #Hc := (record_at m K (c, .inr (false, j))) $$ HR
  ihave #Hn := (record_at m K (goes j c, .inr (true, j))) $$ HR
  icases Hc with ⟨Hi, Hr⟩
  icases Hn with ⟨Hi', Hr'⟩
  unfold srcPts slotAt
  iapply (Rounds.wp_send_pointsTo Variants.none ER (plan m) (c : Thread nD τ) none (κ₁ := K (c, .inr (false, j)))
    (κ₂ := K (goes j c, .inr (true, j))) (q := shareOf j) (fs := srcBuf m c j)
    (r₁ := 0) (r₂ := 0) (d₁ := false) (d₂ := false) (fd := f)
    (by rw [duties_x]; exact Finset.mem_singleton_self _) (by rw [duties_x]; exact Finset.mem_singleton_self _)
    () () N (by fin_cases j <;> rfl) rfl rfl (dues c ks) rfl (W := W)
    (by rw [payload_x]; exact BI.Entails.refl _)
    (by
      rw [payload_x]
      have h := dst_write m (goes j c) j f
      rw [comes_goes] at h
      exact Entails.of_eq (congrArg (slotAt (F := F) (goes j c) j) h))) $$ [HO Hs Hd Ht Ht']
  · isplitr; · iexact Hi
    isplitr; · iexact Hi'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iexact Hc

end Steps

end Cert.FoldSum

end
-- ==== Proof.Body.lean ====
/-
# The kernel's body on one device
-/
module

public import proofs.«01_k».proof.Proof.Steps
public import proofs.«01_k».proof.Proof.Gen.KernelIdeal.Points
public import Idealize.ShloMosaic.Lib.WritesUnit

@[expose] public section

noncomputable section

namespace Cert.FoldSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The operand, dealt to the packets that leave from it -/

/-- The staged operand on `c`, its elements `S` at share `q`. -/
abbrev xAt (c : Dev nD) (S : Finset (Idx ((c : Thread nD τ).loc cc0_stg0_0))) (q : PosShare TreeShare) : sProp 𝕄 :=
  ((c : Thread nD τ).loc cc0_stg0_0) ↦[S]{q} xstg m c

/-- The elements of the operand a packet leaves from. -/
def xset (c : Dev nD) : Fin 4 → Finset (Idx ((c : Thread nD τ).loc cc0_stg0_0))
  | 0 => (srcM c 0).view.set
  | 1 => (srcM c 1).view.set
  | 2 => (srcM c 2).view.set
  | 3 => (srcM c 3).view.set
/-- What of its share packet `k` leaves behind. -/
def stays (c : Dev nD) (k : Fin 4) : sProp 𝕄 := xAt m c (Finset.univ \ xset c k) (shareOf (k.castLE (by decide)))

/-- A share of the operand is its two halves. -/
theorem xAt_halves (c : Dev nD) (q : PosShare TreeShare) :
    xAt m c Finset.univ q = iprop(xAt m c Finset.univ q.left ∗ xAt m c Finset.univ q.right) :=
  have h : xAt m c Finset.univ q ⊣⊢ iprop(xAt m c Finset.univ q.left ∗ xAt m c Finset.univ q.right) :=
    pointsTo_share (PosShare.mem_left_op_right q)
  equiv_iff.mp ⟨h.1, h.2⟩
/-- The operand at a share is its elements in a set and the others. -/
theorem xAt_parts (c : Dev nD) (q : PosShare TreeShare) (S) : xAt m c Finset.univ q = iprop(xAt m c S q ∗ xAt m c (Finset.univ \ S) q) :=
  have h : xAt m c Finset.univ q ⊣⊢ iprop(xAt m c S q ∗ xAt m c (Finset.univ \ S) q) := pointsTo_split_subset (Finset.subset_univ S)
  equiv_iff.mp ⟨h.1, h.2⟩

/-- The sources of the first four packets, at an eighth of the operand each. -/
theorem src_eq0 (c : Dev nD) : srcPts m c 0 = xAt m c (xset c 0) fullShare.right.left.left := rfl
/-- The source of packet 1. -/
theorem src_eq1 (c : Dev nD) : srcPts m c 1 = xAt m c (xset c 1) fullShare.right.left.right := rfl
/-- The source of packet 2. -/
theorem src_eq2 (c : Dev nD) : srcPts m c 2 = xAt m c (xset c 2) fullShare.right.right.left := rfl
/-- The source of packet 3. -/
theorem src_eq3 (c : Dev nD) : srcPts m c 3 = xAt m c (xset c 3) fullShare.right.right.right := rfl

/-- The staged operand is one half kept for the loads, and for each of the first four packets its source and what stays. -/
theorem x_dealt (c : Dev nD) : xAt m c Finset.univ fullShare
    = iprop(xAt m c Finset.univ fullShare.left ∗ ((srcPts m c 0 ∗ stays m c 0) ∗ (srcPts m c 1 ∗ stays m c 1))
        ∗ (srcPts m c 2 ∗ stays m c 2) ∗ (srcPts m c 3 ∗ stays m c 3)) := by
  rw [xAt_halves, xAt_halves m c fullShare.right, xAt_halves m c fullShare.right.left, xAt_halves m c fullShare.right.right,
    xAt_parts m c fullShare.right.left.left (xset c 0), xAt_parts m c fullShare.right.left.right (xset c 1),
    xAt_parts m c fullShare.right.right.left (xset c 2), xAt_parts m c fullShare.right.right.right (xset c 3),
    src_eq0, src_eq1, src_eq2, src_eq3]
  rfl

/-! ## Before and after -/

/-- One assertion for each packet. -/
def each (Φ : Fin 6 → sProp 𝕄) : sProp 𝕄 := iprop(Φ 0 ∗ Φ 1 ∗ Φ 2 ∗ Φ 3 ∗ Φ 4 ∗ Φ 5)

omit [FloatOps F] in
/-- A product over the packets, written out. -/
theorem bigSep_six (Φ : Fin 6 → sProp 𝕄) : bigSep Finset.univ Φ = each Φ := by
  rw [bigSep_univ_eq_bigSepL six (by decide) (by decide)]; rfl

/-- The scratch buffers of packets 4 and 5's sums, at any contents. -/
def spare (c : Dev nD) (b : Ref sig .tc) : sProp 𝕄 := iprop(∃ f : Buf (Elt F) ((c : Thread nD τ).loc b), ((c : Thread nD τ).loc b) ↦{fullShare} f)

/-- All scratch buffers of a device. -/
def rooms (c : Dev nD) : sProp 𝕄 := iprop(each (slot c) ∗ spare c cc0_scratch6 ∗ spare c cc0_scratch7)

/-- The tokens of the duties device `c` pays. -/
def pays (c : Dev nD) : sProp 𝕄 :=
  iprop(dutyTok ER (barCell (nxt c)) 0 false ∗ dutyTok ER (barCell (prv c)) 0 true
    ∗ each (fun k => dutyTok ER (xcell c false k) 0 false) ∗ each (fun k => dutyTok ER (xcell (goes k c) true k) 0 false))
/-- A device's places in its cells' rounds. -/
def places (c : Dev nD) : sProp 𝕄 :=
  iprop(atPos ER (barCell c) 0 ∅ 0 ∗ each (fun k => atPos ER (xcell c false k) 0 ∅ 0) ∗ each (fun k => atPos ER (xcell c true k) 0 ∅ 0))
/-- A device's ghost state at the start. -/
def ghost (K : Dev nD × CI → ℕ) (c : Dev nD) : sProp 𝕄 := iprop(records m K ∗ places c ∗ pays c)
/-- A device's credit for what its neighbours will pay. -/
def credits (c : Dev nD) : sProp 𝕄 :=
  iprop(cred (tallyAt (barCell c) () 2) ∗ each (fun k => cred (tallyAt (xcell c true k) () N)))

/-- What a device holds when its body begins, its buffers apart. -/
def start (c : Dev nD) : sProp 𝕄 := iprop((∃ K, ghost m K c) ∗ credits c ∗ levAts L lv)

/-- A device's counters at zero. -/
def zeros (c : Dev nD) : sProp 𝕄 :=
  iprop(semVal (barCell c) 0 ∗ each (fun k => semVal (xcell c false k) 0) ∗ each (fun k => semVal (xcell c true k) 0))

/-- A place in a block of 256 × 128 words. -/
def at2 (i j : ℕ) (hi : i < 256) (hj : j < 128) : S256x128.Idx :=
  fun a => ⟨(![i, j] : Fin 2 → ℕ) a, by revert a; exact Fin.forall_fin_two.mpr ⟨hi, hj⟩⟩

/-- The result buffer: columns 0 to 127 the left sum, columns 128 to 255 the right. -/
def outAt (c : Dev nD) : S256x256.Idx → Elt F .f32 := fun i =>
  if h : (i (1 : Fin 2)).val < 128 then leftOut m c (at2 (i (0 : Fin 2)).val (i (1 : Fin 2)).val (i (0 : Fin 2)).isLt h)
  else rightOut m c (at2 (i (0 : Fin 2)).val ((i (1 : Fin 2)).val - 128) (i (0 : Fin 2)).isLt
    (by have h' : (i (1 : Fin 2)).val < 256 := (i (1 : Fin 2)).isLt; omega))

/-- The left half of the result buffer. -/
abbrev rLeft : Rect S256x256 := Rect.unit (s := S256x256) ![0, 0] S256x128.size inb_S256x256_S256x128_0_0
/-- The right half of the result buffer. -/
abbrev rRight : Rect S256x256 := Rect.unit (s := S256x256) ![0, 128] S256x128.size inb_S256x256_S256x128_0_128

/-- The two half stores fill the result buffer, whatever it held. -/
theorem out_filled (c : Dev nD) (f : (cc0_stg1_0 : Ref sig .tc).ty.Contents (Elt F)) :
    (oM.access rRight : View sig .tc _ _ _).write (Elt F) ((oM.access rLeft : View sig .tc _ _ _).write (Elt F) f (leftOut m c) Finset.univ)
      (rightOut m c) Finset.univ = outAt m c := by
  funext i
  have hr (y) : (oM.access rRight : View sig .tc _ _ _).write (Elt F) ((oM.access rLeft : View sig .tc _ _ _).write (Elt F) f (leftOut m c) Finset.univ)
      (rightOut m c) Finset.univ y
      = oM.view.read (Elt F) (oM.view.writes (Elt F) f [⟨rRight, rightOut m c⟩, ⟨rLeft, leftOut m c⟩]) y := rfl
  rw [hr]
  unfold outAt
  have h0 : (i (0 : Fin 2)).val < 256 := (i (0 : Fin 2)).isLt
  have h1 : (i (1 : Fin 2)).val < 256 := (i (1 : Fin 2)).isLt
  by_cases h : (i (1 : Fin 2)).val < 128
  · rw [dif_pos h, View.read_writes_cons_unit_of_not_mem oM.view f _ _ _ i rfl (1 : Fin 2) (Or.inl h)]
    exact View.read_writes_cons_unit_of_mem oM.view f _ _ _ i _ rfl
      (Fin.forall_fin_two.mpr ⟨(Nat.zero_add _).symm, (Nat.zero_add _).symm⟩)
  · rw [dif_neg h]
    exact View.read_writes_cons_unit_of_mem oM.view f _ _ _ i _ rfl
      (Fin.forall_fin_two.mpr ⟨(Nat.zero_add _).symm, (Nat.add_sub_cancel' (Nat.le_of_not_lt h)).symm⟩)

/-- A buffer holding given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- What the next device hands over at the barrier: room for the even packets; -/
theorem barPay_true (c : Dev nD) : (barPay c true : sProp 𝕄) = iprop(slot (goes 0 c) 0 ∗ slot (goes 2 c) 2 ∗ slot (goes 4 c) 4) := rfl
omit [FloatOps F] in
/-- and the device before: room for the odd ones. -/
theorem barPay_false (c : Dev nD) : (barPay c false : sProp 𝕄) = iprop(slot (goes 1 c) 1 ∗ slot (goes 3 c) 3 ∗ slot (goes 5 c) 5) := rfl
omit [FloatOps F] in
/-- What a device hands the one before at the barrier; -/
theorem barPay_prv (c : Dev nD) : (barPay (prv c) true : sProp 𝕄) = iprop(slot c 0 ∗ slot c 2 ∗ slot c 4) := by
  show iprop(slot (nxt (prv c)) 0 ∗ slot (nxt (prv c)) 2 ∗ slot (nxt (prv c)) 4) = _
  rw [nxt_prv]
omit [FloatOps F] in
/-- and what it hands the next. -/
theorem barPay_nxt (c : Dev nD) : (barPay (nxt c) false : sProp 𝕄) = iprop(slot c 1 ∗ slot c 3 ∗ slot c 5) := by
  show iprop(slot (prv (nxt c)) 1 ∗ slot (prv (nxt c)) 3 ∗ slot (prv (nxt c)) 5) = _
  rw [prv_nxt]

/-- The two offsets that are zero. -/
theorem hz : (![0, 0] : Fin 2 → ℕ) = fun _ => 0 := funext (Fin.forall_fin_two.mpr ⟨rfl, rfl⟩)
/-- The whole of a packet's buffer as a rectangle. -/
abbrev r0 : Rect S256x128 := Rect.unit (s := S256x128) ![0, 0] S256x128.size inb_S256x128_S256x128_0_0

omit [FloatOps F] in
/-- A packet's landing buffer is a whole buffer. -/
theorem room (c : Dev nD) (k : Fin 6) (f) :
    slotAt (F := F) c k f = ((dstM k).view.loc (c : Thread nD τ) ↦{fullShare} f : sProp 𝕄) := by
  unfold slotAt; rw [dst_set]

/-- What lands of a packet frees its buffer, whatever it holds. -/
theorem slot_of_pay (c : Dev nD) (k : Fin 6) : xpay m c true k ⊢ slot (F := F) c k := by
  show slotAt (F := F) c k (dstBuf m c k) ⊢ slot (F := F) c k
  unfold slot
  iintro H
  iexists _
  iexact H

/-- Packet 0 landed on `c`; -/
def land0 (c : Dev nD) : (cc0_scratch0 : Ref sig .tc).ty.Contents (Elt F) := dstBuf m c 0
/-- it is handed over as its buffer, whole. -/
theorem got0 (c : Dev nD) : xpay m c true 0 = (((c : Thread nD τ).loc cc0_scratch0) ↦{fullShare} land0 m c : sProp 𝕄) := room c 0 _
/-- Packet 1 landed on `c`; -/
def land1 (c : Dev nD) : (cc0_scratch1 : Ref sig .tc).ty.Contents (Elt F) := dstBuf m c 1
/-- it is handed over as its buffer, whole. -/
theorem got1 (c : Dev nD) : xpay m c true 1 = (((c : Thread nD τ).loc cc0_scratch1) ↦{fullShare} land1 m c : sProp 𝕄) := room c 1 _
/-- Packet 2 landed on `c`; -/
def land2 (c : Dev nD) : (cc0_scratch2 : Ref sig .tc).ty.Contents (Elt F) := dstBuf m c 2
/-- it is handed over as its buffer, whole. -/
theorem got2 (c : Dev nD) : xpay m c true 2 = (((c : Thread nD τ).loc cc0_scratch2) ↦{fullShare} land2 m c : sProp 𝕄) := room c 2 _
/-- Packet 3 landed on `c`; -/
def land3 (c : Dev nD) : (cc0_scratch3 : Ref sig .tc).ty.Contents (Elt F) := dstBuf m c 3
/-- it is handed over as its buffer, whole. -/
theorem got3 (c : Dev nD) : xpay m c true 3 = (((c : Thread nD τ).loc cc0_scratch3) ↦{fullShare} land3 m c : sProp 𝕄) := room c 3 _
/-- Packet 4 landed on `c`; -/
def land4 (c : Dev nD) : (cc0_scratch4 : Ref sig .tc).ty.Contents (Elt F) := dstBuf m c 4
/-- it is handed over as its buffer, whole. -/
theorem got4 (c : Dev nD) : xpay m c true 4 = (((c : Thread nD τ).loc cc0_scratch4) ↦{fullShare} land4 m c : sProp 𝕄) := room c 4 _
/-- Packet 5 landed on `c`; -/
def land5 (c : Dev nD) : (cc0_scratch5 : Ref sig .tc).ty.Contents (Elt F) := dstBuf m c 5
/-- it is handed over as its buffer, whole. -/
theorem got5 (c : Dev nD) : xpay m c true 5 = (((c : Thread nD τ).loc cc0_scratch5) ↦{fullShare} land5 m c : sProp 𝕄) := room c 5 _
omit [FloatOps F] in
/-- A load of the whole of packet 0's buffer reads what it holds. -/
theorem read0 (f : (cc0_scratch0 : Ref sig .tc).ty.Contents (Elt F)) : (Memref.whole cc0_scratch0 : Blk).view.readAt (Elt F) r0.toLoadRect f = f :=
  Memref.readAt_unit_zero (Elt F) cc0_scratch0 hz _ f
omit [FloatOps F] in
/-- A load of the whole of packet 1's buffer reads what it holds. -/
theorem read1 (f : (cc0_scratch1 : Ref sig .tc).ty.Contents (Elt F)) : (Memref.whole cc0_scratch1 : Blk).view.readAt (Elt F) r0.toLoadRect f = f :=
  Memref.readAt_unit_zero (Elt F) cc0_scratch1 hz _ f
omit [FloatOps F] in
/-- A load of the whole of packet 2's buffer reads what it holds. -/
theorem read2 (f : (cc0_scratch2 : Ref sig .tc).ty.Contents (Elt F)) : (Memref.whole cc0_scratch2 : Blk).view.readAt (Elt F) r0.toLoadRect f = f :=
  Memref.readAt_unit_zero (Elt F) cc0_scratch2 hz _ f
omit [FloatOps F] in
/-- A load of the whole of packet 3's buffer reads what it holds. -/
theorem read3 (f : (cc0_scratch3 : Ref sig .tc).ty.Contents (Elt F)) : (Memref.whole cc0_scratch3 : Blk).view.readAt (Elt F) r0.toLoadRect f = f :=
  Memref.readAt_unit_zero (Elt F) cc0_scratch3 hz _ f
omit [FloatOps F] in
/-- A load of the whole of packet 4's buffer reads what it holds. -/
theorem read4 (f : (cc0_scratch4 : Ref sig .tc).ty.Contents (Elt F)) : (Memref.whole cc0_scratch4 : Blk).view.readAt (Elt F) r0.toLoadRect f = f :=
  Memref.readAt_unit_zero (Elt F) cc0_scratch4 hz _ f
omit [FloatOps F] in
/-- A load of the whole of packet 5's buffer reads what it holds. -/
theorem read5 (f : (cc0_scratch5 : Ref sig .tc).ty.Contents (Elt F)) : (Memref.whole cc0_scratch5 : Blk).view.readAt (Elt F) r0.toLoadRect f = f :=
  Memref.readAt_unit_zero (Elt F) cc0_scratch5 hz _ f
omit [FloatOps F] in
/-- A store over the whole of the buffer of packet 4's sum leaves what is stored. -/
theorem fill6 (f w : (cc0_scratch6 : Ref sig .tc).ty.Contents (Elt F)) :
    ((Memref.whole cc0_scratch6 : Blk).access r0 : View sig .tc _ _ _).write (Elt F) f w Finset.univ = w :=
  Memref.write_access_unit_zero_univ (Elt F) cc0_scratch6 hz _ f w
omit [FloatOps F] in
/-- A store over the whole of the buffer of packet 5's sum leaves what is stored. -/
theorem fill7 (f w : (cc0_scratch7 : Ref sig .tc).ty.Contents (Elt F)) :
    ((Memref.whole cc0_scratch7 : Blk).access r0 : View sig .tc _ _ _).write (Elt F) f w Finset.univ = w :=
  Memref.write_access_unit_zero_univ (Elt F) cc0_scratch7 hz _ f w
/-- What comes back of a packet is what it left from. -/
theorem back_eq (c : Dev nD) (k : Fin 6) : xpay m c false k = srcPts m c k := rfl
/-- What packet 4 leaves from is its sum, whole; -/
theorem src_eq4 (c : Dev nD) : srcPts m c 4 = (((c : Thread nD τ).loc cc0_scratch6) ↦{fullShare}
    k0_pay2 (xM.view.readAt (Elt F) (cut (k0_off3 c) (k0_off3_inb c)).toLoadRect (xstg m c)) (land0 m c) : sProp 𝕄) := by
  unfold srcPts
  rw [show (srcM c 4).view.set = Finset.univ from View.set_whole _]; rfl
/-- and likewise packet 5. -/
theorem src_eq5 (c : Dev nD) : srcPts m c 5 = (((c : Thread nD τ).loc cc0_scratch7) ↦{fullShare}
    k0_pay3 (xM.view.readAt (Elt F) (cut (k0_off4 c) (k0_off4_inb c)).toLoadRect (xstg m c)) (land1 m c) : sProp 𝕄) := by
  unfold srcPts
  rw [show (srcM c 5).view.set = Finset.univ from View.set_whole _]; rfl

/-- The result buffer after the two half stores. -/
theorem out_done (c : Dev nD) (f : (cc0_stg1_0 : Ref sig .tc).ty.Contents (Elt F)) :
    ((oM.access rRight : View sig .tc _ _ _).loc (c : Thread nD τ) ↦{fullShare} (oM.access rRight : View sig .tc _ _ _).write (Elt F)
        ((oM.access rLeft : View sig .tc _ _ _).write (Elt F) f
          (k0_pay4 (xM.view.readAt (Elt F) (cut (k0_off5 c 0#32) (k0_off5_inb c 0)).toLoadRect (xstg m c)) (land3 m c) (land4 m c)) Finset.univ)
        (k0_pay1 (k0_pay5 (xM.view.readAt (Elt F) (cut (k0_off5 c 128#32) (k0_off5_inb c 1)).toLoadRect (xstg m c))) (land2 m c) (land5 m c))
        Finset.univ : sProp 𝕄)
      = (((c : Thread nD τ).loc cc0_stg1_0) ↦{fullShare} outAt m c : sProp 𝕄) :=
  congrArg (fun g => (((c : Thread nD τ).loc cc0_stg1_0) ↦{fullShare} g : sProp 𝕄)) (out_filled m c f)

variable (K : Dev nD × CI → ℕ)

/-- What the body starts from: ghost state, credits, levels, buffers, debts and the staged operand and result. -/
def bodyPre (c : Dev nD) : sProp 𝕄 :=
  iprop((ghost m K c ∗ credits c ∗ levAts L lv ∗ rooms c) ∗ debt c (owed₀ c)
    ∗ xAt m c Finset.univ fullShare ∗ ∃ f : Buf (Elt F) ((c : Thread nD τ).loc cc0_stg1_0), ((c : Thread nD τ).loc cc0_stg1_0) ↦{fullShare} f)

/-- What the body leaves: the buffers, every counter at zero, no debt, the operand unchanged and the result filled. -/
def bodyPost (c : Dev nD) : sProp 𝕄 :=
  iprop((rooms c ∗ zeros c) ∗ debt c 0 ∗ xAt m c Finset.univ fullShare ∗ ((c : Thread nD τ).loc cc0_stg1_0) ↦{fullShare} outAt m c)

set_option maxHeartbeats 4000000 in
/-- On every device the body runs from `bodyPre` to `bodyPost`. -/
theorem sound_body (c : Dev nD) (Kt : PUnit → sProp 𝕄) :
    iprop(bodyPre m K c ∗ (bodyPost m c -∗ Kt ⟨⟩))
      ⊢ wp frame (wpE (defs₀ (F := F)) Variants.none (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _) cc0_scratch8) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost places pays credits rooms each spare
  rw [x_dealt]
  iintro ⟨⟨⟨⟨#HR, ⟨Hb, ⟨Hs0, Hs1, Hs2, Hs3, Hs4, Hs5⟩, Hr0, Hr1, Hr2, Hr3, Hr4, Hr5⟩, Htn, Htp, ⟨Hu0, Hu1, Hu2, Hu3, Hu4, Hu5⟩,
    Hv0, Hv1, Hv2, Hv3, Hv4, Hv5⟩, ⟨Hcb, Hc0, Hc1, Hc2, Hc3, Hc4, Hc5⟩, #HL, ⟨Hd0, Hd1, Hd2, Hd3, Hd4, Hd5⟩, Hd6, Hd7⟩,
    HO, ⟨Hx, ⟨⟨Hx0, Hy0⟩, Hx1, Hy1⟩, ⟨Hx2, Hy2⟩, Hx3, Hy3⟩, ⟨%fo, Ho⟩⟩, Hk⟩
  simp only [dev1_eq c, dev2_eq c]
  iapply (wp_tell m K c (prv c) true (owed₁ c) (by decide) rfl) $$ [HO Htp Hd0 Hd2 Hd4]
  · isplitr; · iexact HR
    isplitl [HO]; · iexact HO
    isplitl [Htp]; · iexact Htp
    rw [barPay_prv]
    isplitl [Hd0]; · iexact Hd0
    isplitl [Hd2]; · iexact Hd2
    iexact Hd4
  iintro HO
  iapply (wp_tell m K c (nxt c) false (dues c six) (by decide) rfl) $$ [HO Htn Hd1 Hd3 Hd5]
  · isplitr; · iexact HR
    isplitl [HO]; · iexact HO
    isplitl [Htn]; · iexact Htn
    rw [barPay_nxt]
    isplitl [Hd1]; · iexact Hd1
    isplitl [Hd3]; · iexact Hd3
    iexact Hd5
  iintro HO
  iapply (wp_meet m K c (dues c six) (by decide) (mayWait_dues c _ six (by decide))) $$ [HO Hcb Hb]
  · isplitr; · iexact HR
    isplitr; · iexact HL
    isplitl [HO]; · iexact HO
    isplitl [Hcb]; · iexact Hcb
    iexact Hb
  iintro ⟨HO, Hzb, Hp⟩
  rw [barPay_true, barPay_false]
  icases Hp with ⟨⟨He0, He2, He4⟩, He1, He3, He5⟩
  iapply (wp_post m K c _ 0 [1, 2, 3, 4, 5] (dev3_eq c) (by rfl) (by rfl) (by rfl) (by rfl)) $$ [HO Hx0 He0 Hu0 Hv0]
  · isplitr; · iexact HR
    isplitl [HO]; · iexact HO
    isplitl [Hx0]; · iexact Hx0
    isplitl [He0]; · iexact He0
    isplitl [Hu0]; · iexact Hu0
    iexact Hv0
  iintro ⟨HO, Hw0⟩
  iapply (wp_post m K c _ 1 [2, 3, 4, 5] (dev4_eq c) (by rfl) (by rfl) (by rfl) (by rfl)) $$ [HO Hx1 He1 Hu1 Hv1]
  · isplitr; · iexact HR
    isplitl [HO]; · iexact HO
    isplitl [Hx1]; · iexact Hx1
    isplitl [He1]; · iexact He1
    isplitl [Hu1]; · iexact Hu1
    iexact Hv1
  iintro ⟨HO, Hw1⟩
  iapply (wp_post m K c _ 2 [3, 4, 5] (dev5_eq c) (by rfl) (by rfl) (by rfl) (by rfl)) $$ [HO Hx2 He2 Hu2 Hv2]
  · isplitr; · iexact HR
    isplitl [HO]; · iexact HO
    isplitl [Hx2]; · iexact Hx2
    isplitl [He2]; · iexact He2
    isplitl [Hu2]; · iexact Hu2
    iexact Hv2
  iintro ⟨HO, Hw2⟩
  iapply (wp_post m K c _ 3 [4, 5] (dev6_eq c) (by rfl) (by rfl) (by rfl) (by rfl)) $$ [HO Hx3 He3 Hu3 Hv3]
  · isplitr; · iexact HR
    isplitl [HO]; · iexact HO
    isplitl [Hx3]; · iexact Hx3
    isplitl [He3]; · iexact He3
    isplitl [Hu3]; · iexact Hu3
    iexact Hv3
  iintro ⟨HO, Hw3⟩
  iapply (wp_await m K c false 0 (dues c [4, 5]) (mayWait_dues c _ [4, 5] (by decide)) (by rfl) (by rfl)) $$ [HO Hw0 Hs0]
  · isplitr; · iexact HR
    isplitr; · iexact HL
    isplitl [HO]; · iexact HO
    isplitl [Hw0]; · iexact Hw0
    iexact Hs0
  iintro ⟨HO, Hzs0, Hx0⟩
  ihave Hx0 := (Entails.of_eq (back_eq m c 0)) $$ Hx0
  iapply (wp_await m K c true 0 (dues c [4, 5]) (mayWait_dues c _ [4, 5] (by decide)) (by rfl) (by rfl)) $$ [HO Hc0 Hr0]
  · isplitr; · iexact HR
    isplitr; · iexact HL
    isplitl [HO]; · iexact HO
    isplitl [Hc0]; · iexact Hc0
    iexact Hr0
  iintro ⟨HO, Hzr0, He0⟩
  ihave He0 := (Entails.of_eq (got0 m c)) $$ He0
  iapply (wp_load Variants.none (c : Thread nD τ) none Set.univ (m := xM) (Finset.subset_univ _)) $$ Hx; iintro Hx
  iapply (wp_load Variants.none (c : Thread nD τ) none Set.univ (m := Memref.whole cc0_scratch0) (Finset.subset_univ _)) $$ He0; iintro He0
  rw [read0]
  icases Hd6 with ⟨%f6, Hd6⟩
  iapply (wp_load Variants.none (c : Thread nD τ) none Set.univ (m := Memref.whole cc0_scratch6) (Finset.subset_univ _)) $$ Hd6; iintro Hd6
  iapply (wp_store Variants.none (c : Thread nD τ) none Set.univ (m := Memref.whole cc0_scratch6) (r := r0) (Mk := Finset.univ) (Finset.subset_univ _)) $$ Hd6; iintro Hd6
  rw [fill6]
  ihave Hx4 := (Entails.of_eq (src_eq4 m c).symm) $$ Hd6
  iapply (wp_post m K c _ 4 [5] (dev7_eq c) (by rfl) (by rfl) (by rfl) (by rfl)) $$ [HO Hx4 He4 Hu4 Hv4]
  · isplitr; · iexact HR
    isplitl [HO]; · iexact HO
    isplitl [Hx4]; · iexact Hx4
    isplitl [He4]; · iexact He4
    isplitl [Hu4]; · iexact Hu4
    iexact Hv4
  iintro ⟨HO, Hw4⟩
  iapply (wp_await m K c false 1 (dues c [5]) (mayWait_dues c _ [5] (by decide)) (by rfl) (by rfl)) $$ [HO Hw1 Hs1]
  · isplitr; · iexact HR
    isplitr; · iexact HL
    isplitl [HO]; · iexact HO
    isplitl [Hw1]; · iexact Hw1
    iexact Hs1
  iintro ⟨HO, Hzs1, Hx1⟩
  ihave Hx1 := (Entails.of_eq (back_eq m c 1)) $$ Hx1
  iapply (wp_await m K c true 1 (dues c [5]) (mayWait_dues c _ [5] (by decide)) (by rfl) (by rfl)) $$ [HO Hc1 Hr1]
  · isplitr; · iexact HR
    isplitr; · iexact HL
    isplitl [HO]; · iexact HO
    isplitl [Hc1]; · iexact Hc1
    iexact Hr1
  iintro ⟨HO, Hzr1, He1⟩
  ihave He1 := (Entails.of_eq (got1 m c)) $$ He1
  iapply (wp_load Variants.none (c : Thread nD τ) none Set.univ (m := xM) (Finset.subset_univ _)) $$ Hx; iintro Hx
  iapply (wp_load Variants.none (c : Thread nD τ) none Set.univ (m := Memref.whole cc0_scratch1) (Finset.subset_univ _)) $$ He1; iintro He1
  rw [read1]
  icases Hd7 with ⟨%f7, Hd7⟩
  iapply (wp_load Variants.none (c : Thread nD τ) none Set.univ (m := Memref.whole cc0_scratch7) (Finset.subset_univ _)) $$ Hd7; iintro Hd7
  iapply (wp_store Variants.none (c : Thread nD τ) none Set.univ (m := Memref.whole cc0_scratch7) (r := r0) (Mk := Finset.univ) (Finset.subset_univ _)) $$ Hd7; iintro Hd7
  rw [fill7]
  ihave Hx5 := (Entails.of_eq (src_eq5 m c).symm) $$ Hd7
  iapply (wp_post m K c _ 5 [] (dev8_eq c) (by rfl) (by rfl) (by rfl) (by rfl)) $$ [HO Hx5 He5 Hu5 Hv5]
  · isplitr; · iexact HR
    isplitl [HO]; · iexact HO
    isplitl [Hx5]; · iexact Hx5
    isplitl [He5]; · iexact He5
    isplitl [Hu5]; · iexact Hu5
    iexact Hv5
  iintro ⟨HO, Hw5⟩
  iapply (wp_await m K c false 2 (dues c []) (mayWait_dues c _ [] (by decide)) (by rfl) (by rfl)) $$ [HO Hw2 Hs2]
  · isplitr; · iexact HR
    isplitr; · iexact HL
    isplitl [HO]; · iexact HO
    isplitl [Hw2]; · iexact Hw2
    iexact Hs2
  iintro ⟨HO, Hzs2, Hx2⟩
  ihave Hx2 := (Entails.of_eq (back_eq m c 2)) $$ Hx2
  iapply (wp_await m K c true 2 (dues c []) (mayWait_dues c _ [] (by decide)) (by rfl) (by rfl)) $$ [HO Hc2 Hr2]
  · isplitr; · iexact HR
    isplitr; · iexact HL
    isplitl [HO]; · iexact HO
    isplitl [Hc2]; · iexact Hc2
    iexact Hr2
  iintro ⟨HO, Hzr2, He2⟩
  ihave He2 := (Entails.of_eq (got2 m c)) $$ He2
  iapply (wp_await m K c false 3 (dues c []) (mayWait_dues c _ [] (by decide)) (by rfl) (by rfl)) $$ [HO Hw3 Hs3]
  · isplitr; · iexact HR
    isplitr; · iexact HL
    isplitl [HO]; · iexact HO
    isplitl [Hw3]; · iexact Hw3
    iexact Hs3
  iintro ⟨HO, Hzs3, Hx3⟩
  ihave Hx3 := (Entails.of_eq (back_eq m c 3)) $$ Hx3
  iapply (wp_await m K c true 3 (dues c []) (mayWait_dues c _ [] (by decide)) (by rfl) (by rfl)) $$ [HO Hc3 Hr3]
  · isplitr; · iexact HR
    isplitr; · iexact HL
    isplitl [HO]; · iexact HO
    isplitl [Hc3]; · iexact Hc3
    iexact Hr3
  iintro ⟨HO, Hzr3, He3⟩
  ihave He3 := (Entails.of_eq (got3 m c)) $$ He3
  iapply (wp_await m K c false 4 (dues c []) (mayWait_dues c _ [] (by decide)) (by rfl) (by rfl)) $$ [HO Hw4 Hs4]
  · isplitr; · iexact HR
    isplitr; · iexact HL
    isplitl [HO]; · iexact HO
    isplitl [Hw4]; · iexact Hw4
    iexact Hs4
  iintro ⟨HO, Hzs4, Hx4⟩
  ihave Hx4 := (Entails.of_eq (back_eq m c 4)) $$ Hx4
  iapply (wp_await m K c true 4 (dues c []) (mayWait_dues c _ [] (by decide)) (by rfl) (by rfl)) $$ [HO Hc4 Hr4]
  · isplitr; · iexact HR
    isplitr; · iexact HL
    isplitl [HO]; · iexact HO
    isplitl [Hc4]; · iexact Hc4
    iexact Hr4
  iintro ⟨HO, Hzr4, He4⟩
  ihave He4 := (Entails.of_eq (got4 m c)) $$ He4
  iapply (wp_await m K c false 5 (dues c []) (mayWait_dues c _ [] (by decide)) (by rfl) (by rfl)) $$ [HO Hw5 Hs5]
  · isplitr; · iexact HR
    isplitr; · iexact HL
    isplitl [HO]; · iexact HO
    isplitl [Hw5]; · iexact Hw5
    iexact Hs5
  iintro ⟨HO, Hzs5, Hx5⟩
  ihave Hx5 := (Entails.of_eq (back_eq m c 5)) $$ Hx5
  iapply (wp_await m K c true 5 (dues c []) (mayWait_dues c _ [] (by decide)) (by rfl) (by rfl)) $$ [HO Hc5 Hr5]
  · isplitr; · iexact HR
    isplitr; · iexact HL
    isplitl [HO]; · iexact HO
    isplitl [Hc5]; · iexact Hc5
    iexact Hr5
  iintro ⟨HO, Hzr5, He5⟩
  ihave He5 := (Entails.of_eq (got5 m c)) $$ He5
  iapply (wp_load Variants.none (c : Thread nD τ) none Set.univ (m := xM) (Finset.subset_univ _)) $$ Hx; iintro Hx
  iapply (wp_load Variants.none (c : Thread nD τ) none Set.univ (m := Memref.whole cc0_scratch3) (Finset.subset_univ _)) $$ He3; iintro He3
  rw [read3]
  iapply (wp_load Variants.none (c : Thread nD τ) none Set.univ (m := Memref.whole cc0_scratch4) (Finset.subset_univ _)) $$ He4; iintro He4
  rw [read4]
  iapply (wp_load Variants.none (c : Thread nD τ) none Set.univ (m := oM) (Finset.subset_univ _)) $$ Ho; iintro Ho
  iapply (wp_store Variants.none (c : Thread nD τ) none Set.univ (m := oM) (r := rLeft) (Mk := Finset.univ) (Finset.subset_univ _)) $$ Ho; iintro Ho
  iapply (wp_load Variants.none (c : Thread nD τ) none Set.univ (m := xM) (Finset.subset_univ _)) $$ Hx; iintro Hx
  iapply (wp_load Variants.none (c : Thread nD τ) none Set.univ (m := Memref.whole cc0_scratch2) (Finset.subset_univ _)) $$ He2; iintro He2
  rw [read2]
  iapply (wp_load Variants.none (c : Thread nD τ) none Set.univ (m := Memref.whole cc0_scratch5) (Finset.subset_univ _)) $$ He5; iintro He5
  rw [read5]
  iapply (wp_load Variants.none (c : Thread nD τ) none Set.univ (m := oM) (Finset.subset_univ _)) $$ Ho; iintro Ho
  iapply (wp_store Variants.none (c : Thread nD τ) none Set.univ (m := oM) (r := rRight) (Mk := Finset.univ) (Finset.subset_univ _)) $$ Ho; iintro Ho
  ihave Ho := (Entails.of_eq (out_done m c fo)) $$ Ho
  ihave H4 := (Entails.of_eq (src_eq4 m c)) $$ Hx4
  ihave H5 := (Entails.of_eq (src_eq5 m c)) $$ Hx5
  rw [wp_ret]; imodintro
  iapply Hk
  unfold bodyPost rooms zeros each spare
  rw [x_dealt]
  isplitl [He0 He1 He2 He3 He4 He5 H4 H5 Hzb Hzs0 Hzs1 Hzs2 Hzs3 Hzs4 Hzs5 Hzr0 Hzr1 Hzr2 Hzr3 Hzr4 Hzr5]
  · isplitl [He0 He1 He2 He3 He4 He5 H4 H5]
    · isplitl [He0 He1 He2 He3 He4 He5]
      · isplitl [He0]; · iapply (slot_of_pay m c 0); iapply (Entails.of_eq (got0 m c).symm); iexact He0
        isplitl [He1]; · iapply (slot_of_pay m c 1); iapply (Entails.of_eq (got1 m c).symm); iexact He1
        isplitl [He2]; · iapply (slot_of_pay m c 2); iapply (Entails.of_eq (got2 m c).symm); iexact He2
        isplitl [He3]; · iapply (slot_of_pay m c 3); iapply (Entails.of_eq (got3 m c).symm); iexact He3
        isplitl [He4]; · iapply (slot_of_pay m c 4); iapply (Entails.of_eq (got4 m c).symm); iexact He4
        iapply (slot_of_pay m c 5); iapply (Entails.of_eq (got5 m c).symm); iexact He5
      isplitl [H4]
      · iexists _; iexact H4
      iexists _; iexact H5
    isplitl [Hzb]; · iexact Hzb
    isplitl [Hzs0 Hzs1 Hzs2 Hzs3 Hzs4 Hzs5]
    · isplitl [Hzs0]; · iexact Hzs0
      isplitl [Hzs1]; · iexact Hzs1
      isplitl [Hzs2]; · iexact Hzs2
      isplitl [Hzs3]; · iexact Hzs3
      isplitl [Hzs4]; · iexact Hzs4
      iexact Hzs5
    isplitl [Hzr0]; · iexact Hzr0
    isplitl [Hzr1]; · iexact Hzr1
    isplitl [Hzr2]; · iexact Hzr2
    isplitl [Hzr3]; · iexact Hzr3
    isplitl [Hzr4]; · iexact Hzr4
    iexact Hzr5
  isplitl [HO]; · iexact HO
  isplitr [Ho]
  · isplitl [Hx]; · iexact Hx
    isplitl [Hx0 Hx1 Hy0 Hy1]
    · isplitl [Hx0 Hy0]
      · isplitl [Hx0]; · iexact Hx0
        iexact Hy0
      isplitl [Hx1]; · iexact Hx1
      iexact Hy1
    isplitl [Hx2 Hy2]
    · isplitl [Hx2]; · iexact Hx2
      iexact Hy2
    isplitl [Hx3]; · iexact Hx3
    iexact Hy3
  iexact Ho

end Cert.FoldSum

end
-- ==== Proof.Launch.lean ====
/-
# The run of all sixteen devices

The body's claim, put to the launch: every fair execution ends, with each device's result array holding its sums, its
operand as before and every semaphore at zero.
-/
module

public import proofs.«01_k».proof.Proof.Body
public import proofs.«01_k».proof.Proof.Gen.KernelIdeal.Points
public import Idealize.ShloMosaic.Lib.Pipeline.CollectiveSegs

@[expose] public section

noncomputable section

namespace Cert.FoldSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Around the body -/

/-- The launch's account of one device: its arrays at the start, its staged blocks after the body, what it holds before
    and after, and what it owes before and after. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => iprop(start m c ∗ rooms c)
    | ⟨_ + 1, _⟩ => iprop(rooms c ∗ zeros c)
  q _ := fullShare
  owed t := match t with
    | ⟨0, _⟩ => owed₀ c
    | ⟨_ + 1, _⟩ => 0

omit [FloatOps F] in
/-- The launch's scratch buffers are the device's rooms. -/
theorem rooms_eq (c : Dev nD) : (Pipeline.scopedRest cfg0.spec c : sProp 𝕄) ⊣⊢ rooms c := by
  rw [show (Pipeline.scopedRest cfg0.spec c : sProp 𝕄) = _ from scopedRest0_eq c]
  unfold rooms each spare
  have h (k : Fin 6) : (iprop(∃ f, ((dstM k).view.loc (c : Thread nD τ)) ↦{fullShare} f) : sProp 𝕄) = slot c k :=
    congrArg (fun Φ => (iprop(∃ f, Φ f) : sProp 𝕄)) (funext fun f => (room (F := F) c k f).symm)
  rw [← h 0, ← h 1, ← h 2, ← h 3, ← h 4, ← h 5]
  constructor
  · iintro ⟨H0, H1, H2, H3, H4, H5, H6, H7⟩
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    iexact H7
  · iintro ⟨⟨H0, H1, H2, H3, H4, H5⟩, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- What the launch asks of a device before its body, in the launch's own terms. -/
def launchPre (c : Dev nD) : sProp 𝕄 :=
  iprop((start m c ∗ rooms c) ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
/-- What it asks of it after. -/
def launchPost (c : Dev nD) : sProp 𝕄 :=
  iprop((rooms c ∗ zeros c) ∗ (dats m 0 c).owesAt () t0_0.succ ∗ stg c cc0_stg0_0 (xstg m c) ∗ stg c cc0_stg1_0 (outAt m c))

set_option maxRecDepth 4000 in
/-- The body does what the launch asks of it. -/
theorem body_obligation (c : Dev nD) : BodyObligation (dats (F := F) m 0 c) (defs₀ (F := F)) Variants.none () Set.univ := fun t => by
  rw [fin_N0 t]
  rw [bigSep_W0, bigSep_W0]
  simp only [owns_whole_eq]
  show launchPre m c ⊢ wp frame (wpE (defs₀ (F := F)) Variants.none c none) Set.univ
    (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _) cc0_scratch8)
    (fun _ => launchPost m c)
  unfold launchPre start
  iintro ⟨⟨⟨⟨%K, Hg⟩, Hc, HL⟩, Hr⟩, HO, ⟨%d0, %g0, %hg0, Hx⟩, ⟨%d1, %g1, %hg1, Ho⟩⟩
  have hx : g0 = xstg m c := by rw [hg0]; unfold Dat.before; rw [if_pos (fetch0_0 t0_0)]; rfl
  subst hx
  unfold Dat.owesAt Pipeline.owesWithin
  icases HO with ⟨%W, %hW, HO⟩
  iapply (sound_body m K c fun _ => launchPost m c)
  unfold bodyPre
  isplitl [Hg Hc HL Hr HO Hx Ho]
  · isplitl [Hg Hc HL Hr]
    · isplitl [Hg]; · iexact Hg
      isplitl [Hc]; · iexact Hc
      isplitl [HL] <;> iassumption
    isplitl [HO]; · unfold debt; iexists W; iexact HO
    isplitl [Hx]; · iexact Hx
    iexists g1; iexact Ho
  unfold bodyPost launchPost debt Dat.owesAt Pipeline.owesWithin
  iintro ⟨HR, ⟨%W', HO⟩, Hx, Ho⟩
  isplitl [HR]; · iexact HR
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-! ## What the launch mints -/

/-- The semaphores the kernel allocates. -/
abbrev osem : Bool × Fin 6 → SemLoc sig := fun bk => .dma (xsem bk.1 bk.2)
/-- The twelve packet semaphores are the kernel's own. -/
theorem ownSemFacts : Pipeline.OwnSemFacts cfg0.spec osem := by decide

/-- Both windows hold their arrays whole. -/
theorem share_eq (c : Dev nD) (w : Fin cfg0.W) : (dats m 0 c).share w = fullShare := by unfold Dat.share; split <;> rfl

/-- Different names are different cells. -/
theorem cellAt_injective : Function.Injective (cellAt : Dev nD × CI → GSem nD τ sig) := by
  rintro ⟨c, u | ⟨b, k⟩⟩ ⟨c', u' | ⟨b', k'⟩⟩ h
  · exact Prod.ext (congrArg (fun g : GSem nD τ sig => g.1.1) h) rfl
  · exact absurd h (bar_ne c c' b' k')
  · exact absurd h.symm (bar_ne c' c b k)
  · obtain ⟨rfl, rfl, rfl⟩ := xcell_inj h; rfl
/-- All cells of the schedule. -/
def allCells : Finset (GSem nD τ sig) := Finset.univ.map ⟨cellAt, cellAt_injective⟩

/-- A device's fourteen duties: the two of its barrier and one of each packet cell. -/
abbrev TI : Type := Bool ⊕ (Bool × Fin 6)
/-- The duty a name stands for. -/
def dutyAt (ct : Dev nD × TI) : GSem nD τ sig × ℕ × Bool := match ct.2 with
  | .inl d => (barCell ct.1, 0, d)
  | .inr bk => (xcell ct.1 bk.1 bk.2, 0, false)
/-- Different names are different duties. -/
theorem dutyAt_injective : Function.Injective (dutyAt : Dev nD × TI → GSem nD τ sig × ℕ × Bool) := by
  rintro ⟨c, d | ⟨b, k⟩⟩ ⟨c', d' | ⟨b', k'⟩⟩ h
  · have h1 : c = c' := congrArg (fun x : GSem nD τ sig × ℕ × Bool => x.1.1.1) h
    have h2 : d = d' := congrArg (fun x : GSem nD τ sig × ℕ × Bool => x.2.2) h
    rw [h1, h2]
  · exact absurd (congrArg Prod.fst h) (bar_ne c c' b' k')
  · exact absurd (congrArg Prod.fst h).symm (bar_ne c' c b k)
  · obtain ⟨rfl, rfl, rfl⟩ := xcell_inj (congrArg Prod.fst h); rfl
/-- All duties of the schedule. -/
def allDuties : Finset (GSem nD τ sig × ℕ × Bool) := Finset.univ.map ⟨dutyAt, dutyAt_injective⟩

/-- The ghost state at the launch. -/
def u₀ : UU := (initOf (Pipeline.cells cfgs cellOf_inj) (Pipeline.launchToks cfgs cellOf_inj), initOf allCells allDuties)

/-- A duty's token. -/
def tok (ct : Dev nD × TI) : sProp 𝕄 := dutyTok ER (dutyAt ct).1 (dutyAt ct).2.1 (dutyAt ct).2.2

/-- What the launch deals device `c`: its cells at their first round, its places there, and its own duties' tokens. -/
def dealt (c : Dev nD) : sProp 𝕄 :=
  iprop((bigSep Finset.univ fun k : CI => roundState ER (plan m) (cellAt (c, k)) 0)
    ∗ ((bigSep Finset.univ fun k : CI => atPos ER (cellAt (c, k)) 0 ∅ 0) ∗ bigSep Finset.univ fun k : CI => reached ER (cellAt (c, k)) 0)
    ∗ bigSep Finset.univ fun t : TI => tok (F := F) (c, t))
/-- What becomes of it once all devices' cells keep the schedule. -/
def shared (c : Dev nD) : sProp 𝕄 := iprop(∃ K, ghost m K c)

omit [FloatOps F] in
/-- A product over two things, written out. -/
theorem bigSep_bools (Φ : Bool → sProp 𝕄) : bigSep Finset.univ Φ = iprop(Φ false ∗ Φ true) :=
  bigSep_univ_eq_bigSepL [false, true] (by decide) (by decide) Φ
omit [FloatOps F] in
/-- One assertion for each end of each packet. -/
theorem bigSep_ends (Φ : Bool × Fin 6 → sProp 𝕄) :
    bigSep Finset.univ Φ = iprop(each (fun k => Φ (false, k)) ∗ each (fun k => Φ (true, k))) := by
  rw [bigSep_univ_prod, bigSep_bools, bigSep_six, bigSep_six]
omit [FloatOps F] in
/-- A product over a device's cells: the barrier's and the packets'. -/
theorem bigSep_cells (Φ : CI → sProp 𝕄) :
    bigSep Finset.univ Φ = iprop(Φ (.inl ()) ∗ bigSep Finset.univ fun bk : Bool × Fin 6 => Φ (.inr bk)) := by
  rw [bigSep_univ_sum, bigSep_univ_eq_bigSepL [()] (by decide) (by decide)]; rfl

/-- The launch's ghost state is dealt to the devices. -/
theorem mint : BI.own (ER (initOf allCells allDuties)) ⊢ (|==> bigSep Finset.univ (dealt m) : sProp 𝕄) := by
  have hX (Φ : GSem nD τ sig → sProp 𝕄) : bigSep allCells Φ = bigSep Finset.univ fun c : Dev nD => bigSep Finset.univ fun k : CI => Φ (cellAt (c, k)) := by
    unfold allCells; rw [bigSep_map, bigSep_univ_prod]; rfl
  have hT : bigSep allDuties (fun x => (dutyTok ER x.1 x.2.1 x.2.2 : sProp 𝕄))
      = bigSep Finset.univ fun c : Dev nD => bigSep Finset.univ fun t : TI => tok (F := F) (c, t) := by
    unfold allDuties; rw [bigSep_map, bigSep_univ_prod]; rfl
  iintro HX
  imod (Rounds.fund ER (plan m) allCells allDuties) $$ HX with ⟨Hst, Hr, Hat, Htok⟩
  imodintro
  ihave Hst := (Entails.of_eq (hX fun g => roundState ER (plan m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat]; · iexact Hat
    iexact Hr
  iexact Htok

omit [FloatOps F] in
/-- The kernel's own counters are those of the packets. -/
theorem own_eq (c : Dev nD) : (Pipeline.ownSems0 (Ix := Unit) (Name := ℕ) (U := UU) (Lvl := ℕ) (Val := Elt F) (τ := τ) osem c : sProp 𝕄)
    = bigSep Finset.univ fun bk : Bool × Fin 6 => semVal (cellAt (c, .inr bk)) 0 := rfl
omit [FloatOps F] in
/-- The one other counter is the barrier. -/
theorem unscoped_eq (c : Dev nD) : (unscopedSems0 c : sProp 𝕄) = semVal (barCell c) 0 := by
  unfold unscopedSems0; rw [bigSep_eq_bigSepL_of_eq [SemLoc.reg barS] (by decide) (by decide)]; rfl

/-- A device's counters at zero, with its cells at their first round, become cells that keep the schedule. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : CI => iprop(∃ κ : ℕ, cellInv ER (plan m) κ (cellAt (c, k))))
          ∗ ((bigSep Finset.univ fun k : CI => atPos ER (cellAt (c, k)) 0 ∅ 0) ∗ bigSep Finset.univ fun k : CI => reached ER (cellAt (c, k)) 0)
          ∗ bigSep Finset.univ fun t : TI => tok (F := F) (c, t)) := by
  unfold dealt
  rw [own_eq, unscoped_eq]
  iintro ⟨Hos, Hus, Hst, Hat, Htok⟩
  imod (show iprop((bigSep Finset.univ fun k : CI => semVal (cellAt (c, k)) 0) ∗ bigSep Finset.univ fun k : CI => roundState ER (plan m) (cellAt (c, k)) 0)
      ⊢ (|={Set.univ}=> bigSep Finset.univ fun k : CI => iprop(∃ κ : ℕ, cellInv ER (plan m) κ (cellAt (c, k))) : sProp 𝕄) from by
        rw [← bigSep_sep']
        exact (bigSep_mono fun k _ => (Rounds.body_intro ER (plan m) (cellAt (c, k))).trans inv_alloc).trans (bigSep_fupd _ _)) $$ [Hos Hus Hst] with Hinv
  · isplitl [Hos Hus]
    · rw [bigSep_cells]
      isplitl [Hus]; · iexact Hus
      iexact Hos
    iexact Hst
  imodintro
  isplitl [Hinv]; · iexact Hinv
  isplitl [Hat]; · iexact Hat
  iexact Htok

/-- The device whose duty `t` device `c` pays. -/
def payee : TI → Dev nD ≃ Dev nD
  | .inl false => turn
  | .inl true => turn.symm
  | .inr (false, _) => Equiv.refl _
  | .inr (true, k) => along k

omit [FloatOps F] in
/-- The tokens, minted with the cells' devices, dealt to the devices that pay. -/
theorem toks_around : (bigSep Finset.univ fun c : Dev nD => bigSep Finset.univ fun t : TI => tok (F := F) (c, t))
    = bigSep Finset.univ fun c : Dev nD => bigSep Finset.univ fun t : TI => tok (F := F) (payee t c, t) := by
  rw [bigSep_univ_comm, bigSep_univ_comm (fun (c : Dev nD) (t : TI) => tok (F := F) (payee t c, t))]
  exact bigSep_congr fun t _ => bigSep_univ_equiv (payee t) _

omit [FloatOps F] in
/-- The tokens dealt to a device are those of the duties it pays. -/
theorem pays_intro (c : Dev nD) : (bigSep Finset.univ fun t : TI => tok (F := F) (payee t c, t)) ⊢ pays c := by
  rw [bigSep_univ_sum, bigSep_bools, bigSep_ends]
  show iprop((dutyTok ER (barCell (nxt c)) 0 false ∗ dutyTok ER (barCell (prv c)) 0 true)
    ∗ each (fun k => dutyTok ER (xcell c false k) 0 false) ∗ each (fun k => dutyTok ER (xcell (goes k c) true k) 0 false)) ⊢ pays c
  unfold pays
  iintro ⟨⟨H1, H2⟩, H3, H4⟩
  isplitl [H1]; · iexact H1
  isplitl [H2]; · iexact H2
  isplitl [H3]; · iexact H3
  iexact H4

omit [FloatOps F] in
/-- The places dealt to a device are those in its own cells. -/
theorem places_intro (c : Dev nD) : (bigSep Finset.univ fun k : CI => (atPos ER (cellAt (c, k)) 0 ∅ 0 : sProp 𝕄)) ⊢ places c := by
  rw [bigSep_cells, bigSep_ends]; exact BI.Entails.refl _

/-- So what is dealt to a device is its ghost state. -/
theorem ghost_intro (K : Dev nD × CI → ℕ) (c : Dev nD) :
    iprop(records m K ∗ (bigSep Finset.univ fun k : CI => atPos ER (cellAt (c, k)) 0 ∅ 0) ∗ bigSep Finset.univ fun t : TI => tok (F := F) (payee t c, t))
      ⊢ shared m c := by
  unfold shared ghost
  iintro ⟨HR, Ha, Ht⟩
  iexists K
  isplitl [HR]; · iexact HR
  isplitl [Ha]; · iapply (places_intro (F := F) c); iexact Ha
  iapply (pays_intro (F := F) c); iexact Ht

omit [FloatOps F] in
/-- What is known for good may be used at every device. -/
theorem bigSep_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Tokens go from the device whose cell is paid to the device that pays, and every device learns of every cell. -/
theorem regroup :
    (bigSep Finset.univ fun c : Dev nD => iprop((bigSep Finset.univ fun k : CI => iprop(∃ κ : ℕ, cellInv ER (plan m) κ (cellAt (c, k))))
          ∗ ((bigSep Finset.univ fun k : CI => atPos ER (cellAt (c, k)) 0 ∅ 0) ∗ bigSep Finset.univ fun k : CI => reached ER (cellAt (c, k)) 0)
          ∗ bigSep Finset.univ fun t : TI => tok (F := F) (c, t)) : sProp 𝕄)
      ⊢ bigSep Finset.univ (shared m) := by
  rw [bigSep_sep', bigSep_sep', bigSep_sep', toks_around,
    ← bigSep_univ_prod (fun ci : Dev nD × CI => iprop(∃ κ : ℕ, cellInv ER (plan m) κ (cellAt ci))),
    ← bigSep_univ_prod (fun ci : Dev nD × CI => (reached ER (cellAt ci) 0 : sProp 𝕄))]
  iintro ⟨HI, ⟨Hat, #HR⟩, Htok⟩
  ihave HK := (BI.bigSep_exists_pi Finset.univ (fun (ci : Dev nD × CI) (κ : ℕ) => (cellInv ER (plan m) κ (cellAt ci) : sProp 𝕄))) $$ HI
  icases HK with ⟨%K, #HI⟩
  iapply (bigSep_known (R := records m K) fun c _ => ghost_intro m K c)
  isplitr
  · unfold records; isplitl; · iexact HI
    iexact HR
  rw [bigSep_sep']
  isplitl [Hat]; · iexact Hat
  iexact Htok

/-- All devices' semaphores at once become cells that keep the schedule. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (shared m) :=
  ((bigSep_mono fun c _ => core_alloc m c).trans (bigSep_fupd _ _)).trans (BI.fupd_mono (regroup m))

/-! ## The credit the launch gives for what is owed -/

/-- Packets owe the barrier nothing. -/
theorem dues_bar (d c : Dev nD) : ∀ ks, dues d ks (barCell c) () = 0
  | [] => rfl
  | k :: ks => by
    unfold dues
    rw [Pi.add_apply, Finsupp.add_apply, dues_bar d c ks, tallyAt_ne_cell (bar_ne c _ true k)]; rfl

/-- A debt of one cell, read at any cell. -/
theorem tally_one {g g' : GSem nD τ sig} {n : ℕ} {p : Prop} [Decidable p] (h : Iff (g' = g) p) :
    tallyAt (Ix := Unit) g () n g' () = if p then n else 0 := by
  rw [tallyAt_apply]
  by_cases hp : p
  · rw [if_pos hp, if_pos ⟨h.2 hp, rfl⟩]
  · rw [if_neg hp, if_neg fun h' => hp (h.1 h'.1)]

/-- A barrier cell tells its device. -/
theorem bar_at {a b : Dev nD} (h : barCell a = barCell b) : a = b := congrArg (fun g : GSem nD τ sig => g.1.1) h

/-- Device `d` owes device `c`'s barrier one unit if it is a neighbour. -/
theorem owed_bar (d c : Dev nD) : owed₀ d (barCell c) () = (if d = prv c then 1 else 0) + (if d = nxt c then 1 else 0) := by
  unfold owed₀ owed₁
  rw [Pi.add_apply, Finsupp.add_apply, Pi.add_apply, Finsupp.add_apply, dues_bar, Nat.zero_add,
    tally_one (p := d = prv c) ⟨fun h => by rw [bar_at h, prv_nxt], fun h => by rw [h, nxt_prv]⟩,
    tally_one (p := d = nxt c) ⟨fun h => by rw [bar_at h, nxt_prv], fun h => by rw [h, prv_nxt]⟩]

/-- Device `d` owes device `c`'s arrival cell of a packet still to leave the packet's words if it sends it there. -/
theorem dues_x (d c : Dev nD) (k : Fin 6) : ∀ {ks : List (Fin 6)}, ks.Nodup →
    dues d ks (xcell c true k) () = if k ∈ ks ∧ d = comes k c then N else 0
  | [], _ => (if_neg fun h => absurd h.1 List.not_mem_nil).symm
  | j :: ks, h => by
    have h' := List.nodup_cons.mp h
    unfold dues
    rw [Pi.add_apply, Finsupp.add_apply, dues_x d c k h'.2,
      tally_one (p := k = j ∧ d = comes k c) ⟨fun e => by
        obtain ⟨rfl, -, rfl⟩ := xcell_inj e
        exact ⟨rfl, (comes_goes _ _).symm⟩, fun e => by rw [e.2, e.1, goes_comes]⟩]
    by_cases hj : k = j
    · subst hj
      rw [if_neg fun e => h'.1 e.1, Nat.zero_add]
      exact if_congr ⟨fun e => ⟨List.mem_cons_self, e.2⟩, fun e => ⟨rfl, e.2⟩⟩ rfl rfl
    · rw [if_neg (c := k = j ∧ d = comes k c) (fun e => hj e.1), Nat.add_zero]
      exact if_congr ⟨fun e => ⟨List.mem_cons_of_mem _ e.1, e.2⟩, fun e => ⟨(List.mem_cons.mp e.1).resolve_left hj, e.2⟩⟩ rfl rfl

/-- Device `d` owes the arrival of packet `k` on `c` if it is the one that sends it. -/
theorem owed_x (d c : Dev nD) (k : Fin 6) : owed₀ d (xcell c true k) () = if d = comes k c then N else 0 := by
  unfold owed₀ owed₁
  rw [Pi.add_apply, Finsupp.add_apply, Pi.add_apply, Finsupp.add_apply, tallyAt_ne_cell (bar_ne _ _ _ _).symm, tallyAt_ne_cell (bar_ne _ _ _ _).symm,
    dues_x d c k (by decide : six.Nodup)]
  exact if_congr ⟨fun h => h.2, fun h => ⟨by clear h; revert k; decide, h⟩⟩ rfl rfl

/-- The credit of a barrier at the launch is two units; -/
theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
/-- that of a packet's arrival is the packet's words. -/
theorem launch_x (c : Dev nD) (k : Fin 6) :
    tallyOn (xcell c true k) (launchCredit (Pipeline.owing owed₀) 0 (xcell c true k)) = (tallyAt (xcell c true k) () N : CellTallies nD τ sig Unit) := by
  unfold tallyAt; refine congrArg _ (Finsupp.ext fun u => ?_); cases u
  rw [Pipeline.launchCredit_owing, Finsupp.single_eq_same, Finset.sum_congr rfl fun d _ => owed_x d c k,
    Finset.sum_ite_eq' Finset.univ (comes k c) fun _ => N, if_pos (Finset.mem_univ _)]

/-- The arrival semaphores. -/
def arrivals : Finset (SemLoc sig) := Finset.univ.map ⟨fun k : Fin 6 => SemLoc.dma (xsem true k), fun k k' h =>
  (xcell_inj (c := (0 : Fin 16)) (d := (0 : Fin 16)) (b := true) (b' := true) (k := k) (k' := k') (congrArg (Prod.mk _) h)).2.2⟩

omit [FloatOps F] in
/-- So a device's credit at the launch is what its body spends. -/
theorem credits_intro (c : Dev nD) : (Pipeline.launchCred owed₀ c : sProp 𝕄) ⊢ credits c := by
  unfold Pipeline.launchCred credits
  rw [bigSep_univ_at _ (SemLoc.reg barS), launch_bar]
  refine sep_mono_right ?_
  refine BI.Entails.trans (bigSep_subset (t := arrivals) fun s hs => ?_) ?_
  · obtain ⟨k, -, rfl⟩ := Finset.mem_map.mp hs
    exact Finset.mem_erase.mpr ⟨fun h => (by cases h), Finset.mem_univ _⟩
  · unfold arrivals
    rw [bigSep_map, bigSep_six]
    rw [show (fun k : Fin 6 => (cred (tallyAt (xcell c true k) () N) : sProp 𝕄))
      = fun k => cred (tallyOn (xcell c true k) (launchCredit (Pipeline.owing owed₀) 0 (xcell c true k))) from
        funext fun k => congrArg cred (launch_x c k).symm]
    exact BI.Entails.refl _

/-! ## The launch theorem's side conditions -/

/-- What a device is dealt at the launch is what its body starts from. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ shared m c)
      ⊢ |={Set.univ}=> iprop(start m c ∗ emp) := by
  iintro ⟨-, Hlev, Hcr, -, HG⟩
  imodintro
  unfold start shared
  isplitl
  · isplitl [HG]; · iexact HG
    isplitl [Hcr]; · iapply (credits_intro (F := F) c); iexact Hcr
    iexact Hlev
  · iempintro

/-- With the scratch buffers it enters the body; -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ iprop(start m c ∗ rooms c)
  iintro ⟨Hs, -, Hr⟩
  isplitl [Hs]; · iexact Hs
  iapply (rooms_eq (F := F) c).1; iexact Hr

/-- and the body leaves the counters at zero and the scratch buffers. -/
theorem leave (c : Dev nD) :
    (dats m 0 c).Φ (Fin.last cfg0.N) ⊢ iprop(unscopedSems0 c ∗ Pipeline.ownSems0 osem c ∗ Pipeline.scopedRest cfg0.spec c) := by
  show iprop(rooms c ∗ zeros c) ⊢ _
  rw [own_eq, unscoped_eq, bigSep_ends]
  unfold zeros
  iintro ⟨Hr, Hb, Hz⟩
  isplitl [Hb]; · iexact Hb
  isplitl [Hz]; · iexact Hz
  iapply (rooms_eq (F := F) c).2; iexact Hr

/-- The waits for the staged blocks lie below all that is owed. -/
theorem waits (c : Dev nD) : (levAts L lv : sProp 𝕄) ⊢ Pipeline.cellsWaits cfgs (dats m) () 0 c :=
  Pipeline.cellsWaits_intro cfgs (dats m) () 0 c fun w s t => by
    have hs : height (.dma ((cfg0.win w).sem s)) = 0 := by fin_cases w <;> fin_cases s <;> decide
    rcases t with ⟨_ | _, ht⟩
    · exact mayWait_below c _ (owed₀ c) fun g u h => by rw [hs]; exact owed₀_pos h
    · exact mayWait_below c _ 0 fun g u h => absurd h (Nat.lt_irrefl 0)

/-! ## The run -/

/-- What device `c`'s array `w` holds in the end. -/
def finalA (c : Dev nD) (w : Fin cfg0.W) : Buf (Elt F) ((cfg0.win w).arr.view.loc (c : Thread nD τ)) := (dats m 0 c).arrAt w cfg0.N

/-- Every array ends at its final contents. -/
def Ends : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On sixteen devices, at any float values and from any memory with counters at zero, every weakly fair execution of
    the program ends; in the end each device's arrays hold what `finalA` says and every counter is zero. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := dealt m) (G' := shared m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand's array ends as it was. -/
theorem finalA_x (c : Dev nD) : finalA m c (0 : Fin 2) = m ((c : Thread nD τ).loc main_arg0) :=
  (dats (F := F) m 0 c).arrAt_in (0 : Fin 2) rfl _

end Cert.FoldSum

end
-- ==== Proof.Value.lean ====
/-
# What the kernel leaves is the sum of the four blocks

Over the extended reals addition is commutative and associative, so the order in which the ring adds the four
blocks does not matter.  This file reads the two half results word by word, each as a sum of one word of each of
the four devices of the ring, and meets them with the reference's sum over the first axis.
-/
module

public import proofs.«01_k».proof.Defs
public import proofs.«01_k».proof.Proof.Launch
public import proofs.«01_k».proof.Proof.Gen.ReferenceIdeal
public import Idealize.ShloMosaic.Lib.Pipeline.Value
public import Idealize.ShloMosaic.Lib.Pointwise.Reduce
public import Idealize.ShloMosaic.Lib.IdealHost

@[expose] public section

noncomputable section

namespace Cert.FoldSum

open Cert.KernelIdeal Cert.KernelIdeal.Gen
open Idealize.ShloMosaic Idealize.ShloMosaic.TcCoe
open Idealize.SL Idealize.SL.RA Idealize.SL.BI Idealize.SL.Sem

section Reading

variable {F : FTy → Type} [FloatOps F]
variable (m : (ℓ : Loc nD τ sig) → Buf (Elt F) ℓ)

/-! ## Words of the operand -/

/-- The word of an operand at row `i` and column `k`. -/
def word (x : S1x256x1024.Idx → Elt F .f32) (i : Fin 256) (k : ℕ) : Elt F .f32 := x (ix3 0 i (Fin.ofNat 1024 k))

/-- A load at columns `k` on, with its unit axis dropped, reads the words at those columns. -/
theorem load_word (c : Dev nD) (off : Fin 3 → ℕ) (h : ∀ a, off a + S1x256x128.size a ≤ S1x256x1024.size a) (k : ℕ)
    (ho : off = ![0, 0, k]) (y : S256x128.Idx) :
    shapeCast S256x128 (xload m c off h) shapeCasts_S1x256x128_S256x128 y
      = word (xstg m c) (y (0 : Fin 2)) (k + (y (1 : Fin 2)).val) := by
  subst ho
  have h2 : k + 128 ≤ 1024 := h (2 : Fin 3)
  have hy : (y (1 : Fin 2)).val < 128 := (y (1 : Fin 2)).isLt
  rw [shapeCast_dropUnit_apply]
  refine congrArg (xstg m c) (funext fun a => Fin.ext ?_)
  match a with
  | ⟨0, _⟩ => rfl
  | ⟨1, _⟩ => exact (Nat.zero_add _).trans (Nat.one_mul _)
  | ⟨2, _⟩ =>
    show k + 1 * (y (1 : Fin 2)).val = (k + (y (1 : Fin 2)).val) % 1024
    rw [Nat.mod_eq_of_lt (by omega), Nat.one_mul]

/-- So does a piece of the operand sent as a packet. -/
theorem piece_word (c : Dev nD) (off : Fin 3 → ℕ) (h : ∀ a, off a + S1x256x128.size a ≤ S1x256x1024.size a) (k : ℕ)
    (ho : off = ![0, 0, k]) (y : S256x128.Idx) :
    xpiece m c off h y = word (xstg m c) (y (0 : Fin 2)) (k + (y (1 : Fin 2)).val) :=
  (show xpiece m c off h y = shapeCast S256x128 (xload m c off h) shapeCasts_S1x256x128_S256x128 y from rfl).trans
    (load_word m c off h k ho y)

/-! ## Where each piece starts -/

/-- The left piece for the device opposite; -/
theorem off1_far (c : Dev nD) : k0_off1 c 2#32 0#32 = ![0, 0, 256 * ((c.val % 4 + 2) % 4)] := by
  revert c; decide +kernel
/-- the right piece for it; -/
theorem off1_far_right (c : Dev nD) : k0_off1 c 2#32 128#32 = ![0, 0, 256 * ((c.val % 4 + 2) % 4) + 128] := by
  revert c; decide +kernel
/-- and the right piece for the next device. -/
theorem off1_near_right (c : Dev nD) : k0_off1 c 1#32 128#32 = ![0, 0, 256 * ((c.val % 4 + 1) % 4) + 128] := by
  revert c; decide +kernel

/-- The next device's place along the third axis; -/
theorem nxt_mod (c : Dev nD) : (nxt c).val % 4 = (c.val % 4 + 1) % 4 := by revert c; decide
/-- and the place of the one before. -/
theorem prv_mod (c : Dev nD) : (prv c).val % 4 = (c.val % 4 + 3) % 4 := by revert c; decide

end Reading

/-! ## The two halves as sums of four words -/

variable (m : (ℓ : Loc nD τ sig) → Buf (Elt Ideal) ℓ)

/-- The word of device `d`'s operand at row `y 0` and at column `y 1` of the columns from `k` on. -/
abbrev wat (k : ℕ) (y : S256x128.Idx) (d : Dev nD) : EReal :=
  word (F := Ideal) (xstg m d) (y (0 : Fin 2)) (k + (y (1 : Fin 2)).val)

/-- The left half: the device's own word and the next one's, and those of the two before. -/
theorem left_word (c : Dev nD) (y : S256x128.Idx) :
    leftOut m c y = (wat m (256 * (c.val % 4)) y c + wat m (256 * (c.val % 4)) y (nxt c))
      + (wat m (256 * (c.val % 4)) y (prv c) + wat m (256 * (c.val % 4)) y (prv (prv c))) := by
  have h0 := load_word m c (k0_off5 c 0#32) (k0_off5_inb c 0) (256 * (c.val % 4)) (k0_off5_eq c 0) y
  have h1 : pkt m (nxt c) 3 y = wat m (256 * (c.val % 4)) y (nxt c) :=
    piece_word m (nxt c) (k0_off2 (nxt c)) (k0_off2_inb (nxt c)) _
      ((k0_off2_eq (nxt c)).trans (by rw [nxt_mod, show ((c.val % 4 + 1) % 4 + 3) % 4 = c.val % 4 by omega])) y
  have h2 := load_word m (prv c) (k0_off3 (prv c)) (k0_off3_inb (prv c)) (256 * (c.val % 4))
      ((k0_off3_eq (prv c)).trans (by rw [prv_mod, show ((c.val % 4 + 3) % 4 + 1) % 4 = c.val % 4 by omega])) y
  have h3 := piece_word m (prv (prv c)) (k0_off1 (prv (prv c)) 2#32 0#32) (k0_off1_inb (prv (prv c)) 0) (256 * (c.val % 4))
      ((off1_far _).trans (by rw [prv_mod, prv_mod, show (((c.val % 4 + 3) % 4 + 3) % 4 + 2) % 4 = c.val % 4 by omega])) y
  have h4 : pkt m (prv c) 4 y = wat m (256 * (c.val % 4)) y (prv c) + wat m (256 * (c.val % 4)) y (prv (prv c)) := by
    show shapeCast S256x128 (addf _ _) shapeCasts_S256x128_S256x128 y = _
    rw [shapeCast_apply _ _ y y rfl]
    exact congrArg₂ (fun a b : EReal => a + b) h2 h3
  exact congrArg₂ (fun a b : EReal => a + b) (congrArg₂ (fun a b : EReal => a + b) h0 h1) h4

/-- The right half: the device's own word and the one before's, and those of the two next. -/
theorem right_word (c : Dev nD) (y : S256x128.Idx) :
    rightOut m c y = (wat m (256 * (c.val % 4) + 128) y c + wat m (256 * (c.val % 4) + 128) y (prv c))
      + (wat m (256 * (c.val % 4) + 128) y (nxt c) + wat m (256 * (c.val % 4) + 128) y (nxt (nxt c))) := by
  have h0 := load_word m c (k0_off5 c 128#32) (k0_off5_inb c 1) (256 * (c.val % 4) + 128) (k0_off5_eq c 1) y
  have h1 : pkt m (prv c) 2 y = wat m (256 * (c.val % 4) + 128) y (prv c) :=
    piece_word m (prv c) (k0_off1 (prv c) 1#32 128#32) (k0_off1_inb (prv c) 2) _
      ((off1_near_right (prv c)).trans (by rw [prv_mod, show ((c.val % 4 + 3) % 4 + 1) % 4 = c.val % 4 by omega])) y
  have h2 := load_word m (nxt c) (k0_off4 (nxt c)) (k0_off4_inb (nxt c)) (256 * (c.val % 4) + 128)
      ((k0_off4_eq (nxt c)).trans (by rw [nxt_mod, show ((c.val % 4 + 1) % 4 + 3) % 4 = c.val % 4 by omega])) y
  have h3 := piece_word m (nxt (nxt c)) (k0_off1 (nxt (nxt c)) 2#32 128#32) (k0_off1_inb (nxt (nxt c)) 1) (256 * (c.val % 4) + 128)
      ((off1_far_right _).trans (by rw [nxt_mod, nxt_mod, show (((c.val % 4 + 1) % 4 + 1) % 4 + 2) % 4 = c.val % 4 by omega])) y
  have h4 : pkt m (nxt c) 5 y = wat m (256 * (c.val % 4) + 128) y (nxt c) + wat m (256 * (c.val % 4) + 128) y (nxt (nxt c)) := by
    show shapeCast S256x128 (addf _ _) shapeCasts_S256x128_S256x128 y = _
    rw [shapeCast_apply _ _ y y rfl]
    exact congrArg₂ (fun a b : EReal => a + b) h2 h3
  exact congrArg₂ (fun a b : EReal => a + b) (congrArg₂ (fun a b : EReal => a + b) h0 h1) h4

/-! ## The order of addition does not matter -/

/-- A device's place along the third mesh axis. -/
def place (c : Dev nD) : Fin 4 := Fin.ofNat 4 c.val

/-- The next device stands one further, -/
theorem place_nxt (c : Dev nD) : place (nxt c) = place c + 1 := by revert c; decide
/-- the one before three further. -/
theorem place_prv (c : Dev nD) : place (prv c) = place c + 3 := by revert c; decide

/-- Adding around the ring of four, from any place and in either direction, is adding all four. -/
theorem around (f : Fin 4 → EReal) (z : Fin 4) : (f z + f (z + 1)) + (f (z + 3) + f (z + 3 + 3)) = ∑ k, f k := by
  rw [Fin.sum_univ_four]
  fin_cases z
  · show (f 0 + f 1) + (f 3 + f 2) = _; ac_rfl
  · show (f 1 + f 2) + (f 0 + f 3) = _; ac_rfl
  · show (f 2 + f 3) + (f 1 + f 0) = _; ac_rfl
  · show (f 3 + f 0) + (f 2 + f 1) = _; ac_rfl
/-- The same the other way round. -/
theorem around_back (f : Fin 4 → EReal) (z : Fin 4) : (f z + f (z + 3)) + (f (z + 1) + f (z + 1 + 1)) = ∑ k, f k := by
  rw [Fin.sum_univ_four]
  fin_cases z
  · show (f 0 + f 3) + (f 1 + f 2) = _; ac_rfl
  · show (f 1 + f 0) + (f 2 + f 3) = _; ac_rfl
  · show (f 2 + f 1) + (f 3 + f 0) = _; ac_rfl
  · show (f 3 + f 2) + (f 0 + f 1) = _; ac_rfl

/-! ## The result buffer -/

/-- The sum of the four blocks at a row and a column. -/
def total (X : (⟨3, ![4, 256, 1024]⟩ : Shape).Idx → EReal) (i : Fin 256) (k : ℕ) : EReal :=
  ∑ z : Fin 4, X (ix3 z i (Fin.ofNat 1024 k))

variable (X : (⟨3, ![4, 256, 1024]⟩ : Shape).Idx → EReal)
  (hX : ∀ (d : Dev nD) (i : Fin 256) (k : ℕ), word (F := Ideal) (xstg m d) i k = X (ix3 (place d) i (Fin.ofNat 1024 k)))

include hX in
/-- When every device of the mesh holds its block of `X`, the left half of the result on device `c` is the sum of the
    four blocks at the columns from `256 z` on, where `z` is the device's place. -/
theorem left_total (c : Dev nD) (y : S256x128.Idx) :
    leftOut m c y = total X (y (0 : Fin 2)) (256 * (c.val % 4) + (y (1 : Fin 2)).val) := by
  rw [left_word]
  have hw (d : Dev nD) : wat m (256 * (c.val % 4)) y d
      = X (ix3 (place d) (y (0 : Fin 2)) (Fin.ofNat 1024 (256 * (c.val % 4) + (y (1 : Fin 2)).val))) := hX d _ _
  rw [hw, hw, hw, hw, place_nxt, place_prv (prv c), place_prv c]
  exact around (fun z => X (ix3 z (y (0 : Fin 2)) (Fin.ofNat 1024 (256 * (c.val % 4) + (y (1 : Fin 2)).val)))) (place c)

include hX in
/-- Likewise the right half, at the columns from `256 z + 128` on. -/
theorem right_total (c : Dev nD) (y : S256x128.Idx) :
    rightOut m c y = total X (y (0 : Fin 2)) (256 * (c.val % 4) + 128 + (y (1 : Fin 2)).val) := by
  rw [right_word]
  have hw (d : Dev nD) : wat m (256 * (c.val % 4) + 128) y d
      = X (ix3 (place d) (y (0 : Fin 2)) (Fin.ofNat 1024 (256 * (c.val % 4) + 128 + (y (1 : Fin 2)).val))) := hX d _ _
  rw [hw, hw, hw, hw, place_prv, place_nxt (nxt c), place_nxt c]
  exact around_back (fun z => X (ix3 z (y (0 : Fin 2)) (Fin.ofNat 1024 (256 * (c.val % 4) + 128 + (y (1 : Fin 2)).val)))) (place c)

include hX in
/-- So the result at row `i` and column `j` is the sum of the four blocks at row `i` and column `256 z + j`. -/
theorem out_total (c : Dev nD) (i : S256x256.Idx) :
    outAt m c i = total X (i (0 : Fin 2)) (256 * (c.val % 4) + (i (1 : Fin 2)).val) := by
  unfold outAt
  by_cases h : (i (1 : Fin 2)).val < 128
  · rw [dif_pos h]
    exact left_total m X hX c _
  · rw [dif_neg h]
    refine (right_total m X hX c _).trans (congrArg (total X (i (0 : Fin 2))) ?_)
    show 256 * (c.val % 4) + 128 + ((i (1 : Fin 2)).val - 128) = _
    omega

/-! ## From the staged buffers to the arrays -/

/-- The staged operand is the whole argument array. -/
theorem xstg_eq (c : Dev nD) : xstg m c = m ((c : Thread nD τ).loc main_arg0) :=
  Memref.read_access_unit_zero (Elt Ideal) main_arg0
    (show (fun a => (win0_0.index (0 : Fin 1)) a * main_arg0.ty.shape.size a) = fun _ => 0 from
      funext fun a => by fin_cases a <;> decide)
    (fun a => by fin_cases a <;> decide) _

/-- The result array ends holding the result buffer. -/
theorem finalA_o (c : Dev nD) : finalA m c (1 : Fin 2) = outAt m c := by
  have h : (win0_1.blk (0 : Fin 1)).view.read (Elt Ideal) (finalA m c (1 : Fin 2)) = outAt m c := by
    unfold finalA
    rw [show cfg0.N = ((0 : Fin 1) : Fin cfg0.N).val + 1 from rfl, (dats m 0 c).arrAt_succ (1 : Fin 2) (0 : Fin 1),
      show (cfg0.win (1 : Fin 2)).flush (0 : Fin 1) = true from by decide, if_pos rfl]
    exact View.read_write_univ _ _
  exact (Memref.read_access_unit_zero (Elt Ideal) main_v1
    (show (fun a => (win0_1.index (0 : Fin 1)) a * main_v1.ty.shape.size a) = fun _ => 0 from
      funext fun a => by fin_cases a <;> decide)
    (fun a => by fin_cases a <;> decide) (finalA m c (1 : Fin 2))).symm.trans h

/-! ## The reference's sum, cut into the devices' columns -/

/-- A device's block of the whole operand, word by word. -/
theorem operand_block (d : Dev nD) (i : Fin 256) (k : ℕ) :
    word (F := Ideal) (Layout.blockN ⟨3, ![1, 256, 1024]⟩ ⟨3, ![4, 256, 1024]⟩ (Layout.meshBlock [2, 2, 4] ![[2], [], []] d) X) i k
      = X (ix3 (place d) i (Fin.ofNat 1024 k)) := by
  have hd : ((Layout.meshBlock [2, 2, 4] ![[2], [], []] d) (0 : Fin 3)).val = d.val % 4 := by revert d; decide
  refine congrArg X (funext fun a => Fin.ext ?_)
  match a with
  | ⟨0, _⟩ =>
    show ((Layout.meshBlock [2, 2, 4] ![[2], [], []] d) (0 : Fin 3)).val * 1 + 0 = d.val % 4
    rw [hd, Nat.mul_one]; rfl
  | ⟨1, _⟩ => exact (congrArg (· + i.val) (Nat.zero_mul 256)).trans (Nat.zero_add _)
  | ⟨2, _⟩ => exact (congrArg (· + (Fin.ofNat 1024 k).val) (Nat.zero_mul 1024)).trans (Nat.zero_add _)

/-- The reference's result at a place is the sum of the four blocks there. -/
theorem reference_total (j : (⟨2, ![256, 1024]⟩ : Shape).Idx) :
    Host.reduceAdd (F := Ideal) (φ := .f32) X (constant Cert.ReferenceIdeal.S_ .f32 0x00000000#32)
        Cert.ReferenceIdeal.Facts₀.reducesTo_S4x256x1024_S256x1024_d0 Cert.ReferenceIdeal.Facts₀.h_S_ j
      = total X (j (0 : Fin 2)) (j (1 : Fin 2)).val := by
  refine (Ideal.hostReduceAdd_r3_a0 _ X _ j).trans ?_
  have h0 : constant (F := Ideal) Cert.ReferenceIdeal.S_ .f32 0x00000000#32 (Shape.Idx.first Cert.ReferenceIdeal.Facts₀.h_S_) = (0 : EReal) :=
    Ideal.ofBits_zero_f32
  refine (congrArg (fun e : EReal => e + _) h0).trans ((zero_add _).trans ?_)
  refine Finset.sum_congr rfl fun z _ => congrArg X (funext fun a => Fin.ext ?_)
  match a with
  | ⟨0, _⟩ => rfl
  | ⟨1, _⟩ => rfl
  | ⟨2, _⟩ => exact (Nat.mod_eq_of_lt (j (1 : Fin 2)).isLt).symm

/-- The block of columns a device holds of the reference's result, place by place. -/
theorem result_block (v : (⟨2, ![256, 1024]⟩ : Shape).Idx → EReal) (hv : ∀ j, v j = total X (j (0 : Fin 2)) (j (1 : Fin 2)).val)
    (c : Dev nD) (i : S256x256.Idx) :
    (Layout.blockN ⟨2, ![256, 256]⟩ ⟨2, ![256, 1024]⟩ (Layout.meshBlock [2, 2, 4] ![[], [2]] c) v) i
      = total X (i (0 : Fin 2)) (256 * (c.val % 4) + (i (1 : Fin 2)).val) := by
  have hc : ((Layout.meshBlock [2, 2, 4] ![[], [2]] c) (1 : Fin 2)).val = c.val % 4 := by revert c; decide
  refine (hv _).trans (congrArg₂ (total X) (Fin.ext ?_) ?_)
  · exact (congrArg (· + (i (0 : Fin 2)).val) (Nat.zero_mul 256)).trans (Nat.zero_add _)
  · show ((Layout.meshBlock [2, 2, 4] ![[], [2]] c) (1 : Fin 2)).val * 256 + (i (1 : Fin 2)).val = _
    rw [hc, Nat.mul_comm]

end Cert.FoldSum

end
-- ==== Proof.lean ====
/-
# The certificate of the four-device sum

The kernel adds the blocks of four devices along the third mesh axis and leaves each device its 256 columns of the sum.
The claims: the program, its idealized form and the reference each end, on every schedule, with their argument
unchanged and every semaphore at zero; idealizing replaces no operation; and over the extended reals the kernel's
result on each device is that device's columns of the reference's sum.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel Cert.FoldSum

/-- Over any float values the idealized kernel's text ends on every schedule, its argument unchanged and its
    semaphores at zero. -/
theorem quiet {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run Cert.KernelIdeal.defs _ _).mono (fun _ h => ⟨fun c => (h.1 c (0 : Fin 2)).trans (finalA_x m c), h.2⟩)
    (run_main m ρ)

/-- The idealized kernel ends on every schedule, its argument unchanged and its semaphores at zero. -/
theorem frame_ideal : Cert.quiescent_KernelIdeal := fun m ρ _ => quiet m ρ

/-- So does the kernel over machine words, being the same text. -/
theorem frame_kernel : Cert.quiescent_Kernel := by
  intro m ρ _
  have h := quiet (F := Bits) m ρ
  show θ_run (Cert.Kernel.defs (F := Bits)) _ _ _
  rw [defs_eq]
  exact h

/-- The reference ends with its argument unchanged; it has no semaphore. -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- When the devices hold their blocks of the reference's argument, the idealized kernel leaves on each device its
    columns of the reference's result. -/
theorem value : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono
    (fun _ h c => ⟨(h.1 c (1 : Fin 2)).trans ?_, (h.1 c (0 : Fin 2)).trans (finalA_x m c)⟩) (run_main (F := Ideal) m ρ)
  refine (finalA_o m c).trans (funext fun i => ?_)
  refine (out_total m _ (fun d i k => ?_) c i).trans (result_block _ _ (reference_total _) c i).symm
  rw [xstg_eq, hagree d]
  exact operand_block _ d i k

/-- Every claim of the certificate. -/
theorem claim : Cert.Claim :=
  ⟨Cert.Kernel.Gen.facts, Cert.KernelIdeal.Gen.facts, Cert.ReferenceIdeal.Gen.facts,
    frame_kernel, frame_ideal, frame_reference, trivial, value⟩

end Cert.Proof

end
